-- ==== Defs.lean ====
def Pre_Sba (m : (ℓ : Loc Cert.Sba.nD Cert.Sba.τ Cert.Sba.sig) → Buf (Elt Bits) ℓ) : Prop :=
  True

def Pre_SbaIdeal (m : (ℓ : Loc Cert.SbaIdeal.nD Cert.SbaIdeal.τ Cert.SbaIdeal.sig) → Buf (Elt Ideal) ℓ) : Prop :=
  True

def Pre_SbaIdeal_sba_finite [hPre_sba_finite : Cert.Pre_sba_finite.Facts] (m : (ℓ : Loc Cert.SbaIdeal.nD Cert.SbaIdeal.τ Cert.SbaIdeal.sig) → Buf (Elt Ideal) ℓ) : Prop :=
  ∀ c : Dev Cert.SbaIdeal.nD,
    (Cert.Pre_sba_finite.fn (F := Ideal) (m ((c.tc : Thread Cert.SbaIdeal.nD Cert.SbaIdeal.τ).loc Cert.SbaIdeal.main_arg0))) = (fun _ => 1#1)

def Pre_SbaRefIdeal (m : (ℓ : Loc Cert.SbaRefIdeal.nD Cert.SbaRefIdeal.τ Cert.SbaRefIdeal.sig) → Buf (Elt Ideal) ℓ) : Prop :=
  True

def Pre_SbaRefIdeal_sba_finite [hPre_sba_finite : Cert.Pre_sba_finite.Facts] (m : (ℓ : Loc Cert.SbaRefIdeal.nD Cert.SbaRefIdeal.τ Cert.SbaRefIdeal.sig) → Buf (Elt Ideal) ℓ) : Prop :=
  ∀ c : Dev Cert.SbaRefIdeal.nD,
    (Cert.Pre_sba_finite.fn (F := Ideal) (m ((c.tc : Thread Cert.SbaRefIdeal.nD Cert.SbaRefIdeal.τ).loc Cert.SbaRefIdeal.main_arg0))) = (fun _ => 1#1)

def Pre_Mma (m : (ℓ : Loc Cert.Mma.nD Cert.Mma.τ Cert.Mma.sig) → Buf (Elt Bits) ℓ) : Prop :=
  True

def Pre_MmaIdeal (m : (ℓ : Loc Cert.MmaIdeal.nD Cert.MmaIdeal.τ Cert.MmaIdeal.sig) → Buf (Elt Ideal) ℓ) : Prop :=
  True

def Pre_MmaRefIdeal (m : (ℓ : Loc Cert.MmaRefIdeal.nD Cert.MmaRefIdeal.τ Cert.MmaRefIdeal.sig) → Buf (Elt Ideal) ℓ) : Prop :=
  True

def Pre_Mmb (m : (ℓ : Loc Cert.Mmb.nD Cert.Mmb.τ Cert.Mmb.sig) → Buf (Elt Bits) ℓ) : Prop :=
  True

def Pre_MmbIdeal (m : (ℓ : Loc Cert.MmbIdeal.nD Cert.MmbIdeal.τ Cert.MmbIdeal.sig) → Buf (Elt Ideal) ℓ) : Prop :=
  True

def Pre_MmbRefIdeal (m : (ℓ : Loc Cert.MmbRefIdeal.nD Cert.MmbRefIdeal.τ Cert.MmbRefIdeal.sig) → Buf (Elt Ideal) ℓ) : Prop :=
  True

def Pre_Mmo (m : (ℓ : Loc Cert.Mmo.nD Cert.Mmo.τ Cert.Mmo.sig) → Buf (Elt Bits) ℓ) : Prop :=
  True

def Pre_MmoIdeal (m : (ℓ : Loc Cert.MmoIdeal.nD Cert.MmoIdeal.τ Cert.MmoIdeal.sig) → Buf (Elt Ideal) ℓ) : Prop :=
  True

def Pre_MmoRefIdeal (m : (ℓ : Loc Cert.MmoRefIdeal.nD Cert.MmoRefIdeal.τ Cert.MmoRefIdeal.sig) → Buf (Elt Ideal) ℓ) : Prop :=
  True

def Pre_Mmu (m : (ℓ : Loc Cert.Mmu.nD Cert.Mmu.τ Cert.Mmu.sig) → Buf (Elt Bits) ℓ) : Prop :=
  True

def Pre_MmuIdeal (m : (ℓ : Loc Cert.MmuIdeal.nD Cert.MmuIdeal.τ Cert.MmuIdeal.sig) → Buf (Elt Ideal) ℓ) : Prop :=
  True

def Pre_MmuRefIdeal (m : (ℓ : Loc Cert.MmuRefIdeal.nD Cert.MmuRefIdeal.τ Cert.MmuRefIdeal.sig) → Buf (Elt Ideal) ℓ) : Prop :=
  True

def Pre_Mmd (m : (ℓ : Loc Cert.Mmd.nD Cert.Mmd.τ Cert.Mmd.sig) → Buf (Elt Bits) ℓ) : Prop :=
  True

def Pre_MmdIdeal (m : (ℓ : Loc Cert.MmdIdeal.nD Cert.MmdIdeal.τ Cert.MmdIdeal.sig) → Buf (Elt Ideal) ℓ) : Prop :=
  True

def Pre_MmdRefIdeal (m : (ℓ : Loc Cert.MmdRefIdeal.nD Cert.MmdRefIdeal.τ Cert.MmdRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_PreNorm (m : (ℓ : Loc Cert.PreNorm.nD Cert.PreNorm.τ Cert.PreNorm.sig) → Buf (Elt Bits) ℓ) : Prop :=
  True

def Pre_PreNormIdeal (m : (ℓ : Loc Cert.PreNormIdeal.nD Cert.PreNormIdeal.τ Cert.PreNormIdeal.sig) → Buf (Elt Ideal) ℓ) : Prop :=
  True

def Pre_PreNormRefIdeal (m : (ℓ : Loc Cert.PreNormRefIdeal.nD Cert.PreNormRefIdeal.τ Cert.PreNormRefIdeal.sig) → Buf (Elt Ideal) ℓ) : Prop :=
  True

def Pre_Resid (m : (ℓ : Loc Cert.Resid.nD Cert.Resid.τ Cert.Resid.sig) → Buf (Elt Bits) ℓ) : Prop :=
  True

def Pre_ResidIdeal (m : (ℓ : Loc Cert.ResidIdeal.nD Cert.ResidIdeal.τ Cert.ResidIdeal.sig) → Buf (Elt Ideal) ℓ) : Prop :=
  True

def Pre_ResidRefIdeal (m : (ℓ : Loc Cert.ResidRefIdeal.nD Cert.ResidRefIdeal.τ Cert.ResidRefIdeal.sig) → Buf (Elt Ideal) ℓ) : Prop :=
  True

def quiescent_Sba [hSba : Cert.Sba.Facts] : Prop :=
  ∀ (m : (ℓ : Loc Cert.Sba.nD Cert.Sba.τ Cert.Sba.sig) → Buf (Elt Bits) ℓ) (g : Dev Cert.Sba.nD → PrngReg), Pre_Sba m →
    θ_run (Cert.Sba.defs (F := Bits)) (onTc (τ := Cert.Sba.τ) (Cert.Sba.main (F := Bits))) ⟨m, fun _ => 0, g⟩ (fun r => (∀ c : Dev Cert.Sba.nD,
      r.2.mem ((c.tc : Thread Cert.Sba.nD Cert.Sba.τ).loc Cert.Sba.main_arg0) = m ((c.tc : Thread Cert.Sba.nD Cert.Sba.τ).loc Cert.Sba.main_arg0))
      ∧ r.2.sem = fun _ => 0)

def quiescent_SbaIdeal [hSbaIdeal : Cert.SbaIdeal.Facts] : Prop :=
  ∀ (m : (ℓ : Loc Cert.SbaIdeal.nD Cert.SbaIdeal.τ Cert.SbaIdeal.sig) → Buf (Elt Ideal) ℓ) (g : Dev Cert.SbaIdeal.nD → PrngReg), Pre_SbaIdeal m →
    θ_run (Cert.SbaIdeal.defs (F := Ideal)) (onTc (τ := Cert.SbaIdeal.τ) (Cert.SbaIdeal.main (F := Ideal))) ⟨m, fun _ => 0, g⟩ (fun r => (∀ c : Dev Cert.SbaIdeal.nD,
      r.2.mem ((c.tc : Thread Cert.SbaIdeal.nD Cert.SbaIdeal.τ).loc Cert.SbaIdeal.main_arg0) = m ((c.tc : Thread Cert.SbaIdeal.nD Cert.SbaIdeal.τ).loc Cert.SbaIdeal.main_arg0))
      ∧ r.2.sem = fun _ => 0)

def quiescent_SbaIdeal_pre_sba_finite [hSbaIdeal : Cert.SbaIdeal.Facts] [hPre_sba_finite : Cert.Pre_sba_finite.Facts] : Prop :=
  ∀ (m : (ℓ : Loc Cert.SbaIdeal.nD Cert.SbaIdeal.τ Cert.SbaIdeal.sig) → Buf (Elt Ideal) ℓ) (g : Dev Cert.SbaIdeal.nD → PrngReg), Pre_SbaIdeal_sba_finite m →
    θ_run (Cert.SbaIdeal.defs (F := Ideal)) (onTc (τ := Cert.SbaIdeal.τ) (Cert.SbaIdeal.main (F := Ideal))) ⟨m, fun _ => 0, g⟩ (fun r => (∀ c : Dev Cert.SbaIdeal.nD,
      r.2.mem ((c.tc : Thread Cert.SbaIdeal.nD Cert.SbaIdeal.τ).loc Cert.SbaIdeal.main_arg0) = m ((c.tc : Thread Cert.SbaIdeal.nD Cert.SbaIdeal.τ).loc Cert.SbaIdeal.main_arg0))
      ∧ r.2.sem = fun _ => 0)

def quiescent_SbaRefIdeal [hSbaRefIdeal : Cert.SbaRefIdeal.Facts] : Prop :=
  ∀ (m : (ℓ : Loc Cert.SbaRefIdeal.nD Cert.SbaRefIdeal.τ Cert.SbaRefIdeal.sig) → Buf (Elt Ideal) ℓ) (g : Dev Cert.SbaRefIdeal.nD → PrngReg), Pre_SbaRefIdeal m →
    θ_run (Cert.SbaRefIdeal.defs (F := Ideal)) (onTc (τ := Cert.SbaRefIdeal.τ) (Cert.SbaRefIdeal.main (F := Ideal))) ⟨m, fun _ => 0, g⟩ (fun r => (∀ c : Dev Cert.SbaRefIdeal.nD,
      r.2.mem ((c.tc : Thread Cert.SbaRefIdeal.nD Cert.SbaRefIdeal.τ).loc Cert.SbaRefIdeal.main_arg0) = m ((c.tc : Thread Cert.SbaRefIdeal.nD Cert.SbaRefIdeal.τ).loc Cert.SbaRefIdeal.main_arg0))
      ∧ r.2.sem = fun _ => 0)

def quiescent_SbaRefIdeal_pre_sba_finite [hSbaRefIdeal : Cert.SbaRefIdeal.Facts] [hPre_sba_finite : Cert.Pre_sba_finite.Facts] : Prop :=
  ∀ (m : (ℓ : Loc Cert.SbaRefIdeal.nD Cert.SbaRefIdeal.τ Cert.SbaRefIdeal.sig) → Buf (Elt Ideal) ℓ) (g : Dev Cert.SbaRefIdeal.nD → PrngReg), Pre_SbaRefIdeal_sba_finite m →
    θ_run (Cert.SbaRefIdeal.defs (F := Ideal)) (onTc (τ := Cert.SbaRefIdeal.τ) (Cert.SbaRefIdeal.main (F := Ideal))) ⟨m, fun _ => 0, g⟩ (fun r => (∀ c : Dev Cert.SbaRefIdeal.nD,
      r.2.mem ((c.tc : Thread Cert.SbaRefIdeal.nD Cert.SbaRefIdeal.τ).loc Cert.SbaRefIdeal.main_arg0) = m ((c.tc : Thread Cert.SbaRefIdeal.nD Cert.SbaRefIdeal.τ).loc Cert.SbaRefIdeal.main_arg0))
      ∧ r.2.sem = fun _ => 0)

def quiescent_Mma [hMma : Cert.Mma.Facts] : Prop :=
  ∀ (m : (ℓ : Loc Cert.Mma.nD Cert.Mma.τ Cert.Mma.sig) → Buf (Elt Bits) ℓ) (g : Dev Cert.Mma.nD → PrngReg), Pre_Mma m →
    θ_run (Cert.Mma.defs (F := Bits)) (onTc (τ := Cert.Mma.τ) (Cert.Mma.main (F := Bits))) ⟨m, fun _ => 0, g⟩ (fun r => (∀ c : Dev Cert.Mma.nD,
      r.2.mem ((c.tc : Thread Cert.Mma.nD Cert.Mma.τ).loc Cert.Mma.main_arg0) = m ((c.tc : Thread Cert.Mma.nD Cert.Mma.τ).loc Cert.Mma.main_arg0)
      ∧ r.2.mem ((c.tc : Thread Cert.Mma.nD Cert.Mma.τ).loc Cert.Mma.main_arg1) = m ((c.tc : Thread Cert.Mma.nD Cert.Mma.τ).loc Cert.Mma.main_arg1))
      ∧ r.2.sem = fun _ => 0)

def quiescent_MmaIdeal [hMmaIdeal : Cert.MmaIdeal.Facts] : Prop :=
  ∀ (m : (ℓ : Loc Cert.MmaIdeal.nD Cert.MmaIdeal.τ Cert.MmaIdeal.sig) → Buf (Elt Ideal) ℓ) (g : Dev Cert.MmaIdeal.nD → PrngReg), Pre_MmaIdeal m →
    θ_run (Cert.MmaIdeal.defs (F := Ideal)) (onTc (τ := Cert.MmaIdeal.τ) (Cert.MmaIdeal.main (F := Ideal))) ⟨m, fun _ => 0, g⟩ (fun r => (∀ c : Dev Cert.MmaIdeal.nD,
      r.2.mem ((c.tc : Thread Cert.MmaIdeal.nD Cert.MmaIdeal.τ).loc Cert.MmaIdeal.main_arg0) = m ((c.tc : Thread Cert.MmaIdeal.nD Cert.MmaIdeal.τ).loc Cert.MmaIdeal.main_arg0)
      ∧ r.2.mem ((c.tc : Thread Cert.MmaIdeal.nD Cert.MmaIdeal.τ).loc Cert.MmaIdeal.main_arg1) = m ((c.tc : Thread Cert.MmaIdeal.nD Cert.MmaIdeal.τ).loc Cert.MmaIdeal.main_arg1))
      ∧ r.2.sem = fun _ => 0)

def quiescent_MmaRefIdeal [hMmaRefIdeal : Cert.MmaRefIdeal.Facts] : Prop :=
  ∀ (m : (ℓ : Loc Cert.MmaRefIdeal.nD Cert.MmaRefIdeal.τ Cert.MmaRefIdeal.sig) → Buf (Elt Ideal) ℓ) (g : Dev Cert.MmaRefIdeal.nD → PrngReg), Pre_MmaRefIdeal m →
    θ_run (Cert.MmaRefIdeal.defs (F := Ideal)) (onTc (τ := Cert.MmaRefIdeal.τ) (Cert.MmaRefIdeal.main (F := Ideal))) ⟨m, fun _ => 0, g⟩ (fun r => (∀ c : Dev Cert.MmaRefIdeal.nD,
      r.2.mem ((c.tc : Thread Cert.MmaRefIdeal.nD Cert.MmaRefIdeal.τ).loc Cert.MmaRefIdeal.main_arg0) = m ((c.tc : Thread Cert.MmaRefIdeal.nD Cert.MmaRefIdeal.τ).loc Cert.MmaRefIdeal.main_arg0)
      ∧ r.2.mem ((c.tc : Thread Cert.MmaRefIdeal.nD Cert.MmaRefIdeal.τ).loc Cert.MmaRefIdeal.main_arg1) = m ((c.tc : Thread Cert.MmaRefIdeal.nD Cert.MmaRefIdeal.τ).loc Cert.MmaRefIdeal.main_arg1))
      ∧ r.2.sem = fun _ => 0)

def quiescent_Mmb [hMmb : Cert.Mmb.Facts] : Prop :=
  ∀ (m : (ℓ : Loc Cert.Mmb.nD Cert.Mmb.τ Cert.Mmb.sig) → Buf (Elt Bits) ℓ) (g : Dev Cert.Mmb.nD → PrngReg), Pre_Mmb m →
    θ_run (Cert.Mmb.defs (F := Bits)) (onTc (τ := Cert.Mmb.τ) (Cert.Mmb.main (F := Bits))) ⟨m, fun _ => 0, g⟩ (fun r => (∀ c : Dev Cert.Mmb.nD,
      r.2.mem ((c.tc : Thread Cert.Mmb.nD Cert.Mmb.τ).loc Cert.Mmb.main_arg0) = m ((c.tc : Thread Cert.Mmb.nD Cert.Mmb.τ).loc Cert.Mmb.main_arg0)
      ∧ r.2.mem ((c.tc : Thread Cert.Mmb.nD Cert.Mmb.τ).loc Cert.Mmb.main_arg1) = m ((c.tc : Thread Cert.Mmb.nD Cert.Mmb.τ).loc Cert.Mmb.main_arg1))
      ∧ r.2.sem = fun _ => 0)

def quiescent_MmbIdeal [hMmbIdeal : Cert.MmbIdeal.Facts] : Prop :=
  ∀ (m : (ℓ : Loc Cert.MmbIdeal.nD Cert.MmbIdeal.τ Cert.MmbIdeal.sig) → Buf (Elt Ideal) ℓ) (g : Dev Cert.MmbIdeal.nD → PrngReg), Pre_MmbIdeal m →
    θ_run (Cert.MmbIdeal.defs (F := Ideal)) (onTc (τ := Cert.MmbIdeal.τ) (Cert.MmbIdeal.main (F := Ideal))) ⟨m, fun _ => 0, g⟩ (fun r => (∀ c : Dev Cert.MmbIdeal.nD,
      r.2.mem ((c.tc : Thread Cert.MmbIdeal.nD Cert.MmbIdeal.τ).loc Cert.MmbIdeal.main_arg0) = m ((c.tc : Thread Cert.MmbIdeal.nD Cert.MmbIdeal.τ).loc Cert.MmbIdeal.main_arg0)
      ∧ r.2.mem ((c.tc : Thread Cert.MmbIdeal.nD Cert.MmbIdeal.τ).loc Cert.MmbIdeal.main_arg1) = m ((c.tc : Thread Cert.MmbIdeal.nD Cert.MmbIdeal.τ).loc Cert.MmbIdeal.main_arg1))
      ∧ r.2.sem = fun _ => 0)

def quiescent_MmbRefIdeal [hMmbRefIdeal : Cert.MmbRefIdeal.Facts] : Prop :=
  ∀ (m : (ℓ : Loc Cert.MmbRefIdeal.nD Cert.MmbRefIdeal.τ Cert.MmbRefIdeal.sig) → Buf (Elt Ideal) ℓ) (g : Dev Cert.MmbRefIdeal.nD → PrngReg), Pre_MmbRefIdeal m →
    θ_run (Cert.MmbRefIdeal.defs (F := Ideal)) (onTc (τ := Cert.MmbRefIdeal.τ) (Cert.MmbRefIdeal.main (F := Ideal))) ⟨m, fun _ => 0, g⟩ (fun r => (∀ c : Dev Cert.MmbRefIdeal.nD,
      r.2.mem ((c.tc : Thread Cert.MmbRefIdeal.nD Cert.MmbRefIdeal.τ).loc Cert.MmbRefIdeal.main_arg0) = m ((c.tc : Thread Cert.MmbRefIdeal.nD Cert.MmbRefIdeal.τ).loc Cert.MmbRefIdeal.main_arg0)
      ∧ r.2.mem ((c.tc : Thread Cert.MmbRefIdeal.nD Cert.MmbRefIdeal.τ).loc Cert.MmbRefIdeal.main_arg1) = m ((c.tc : Thread Cert.MmbRefIdeal.nD Cert.MmbRefIdeal.τ).loc Cert.MmbRefIdeal.main_arg1))
      ∧ r.2.sem = fun _ => 0)

def quiescent_Mmo [hMmo : Cert.Mmo.Facts] : Prop :=
  ∀ (m : (ℓ : Loc Cert.Mmo.nD Cert.Mmo.τ Cert.Mmo.sig) → Buf (Elt Bits) ℓ) (g : Dev Cert.Mmo.nD → PrngReg), Pre_Mmo m →
    θ_run (Cert.Mmo.defs (F := Bits)) (onTc (τ := Cert.Mmo.τ) (Cert.Mmo.main (F := Bits))) ⟨m, fun _ => 0, g⟩ (fun r => (∀ c : Dev Cert.Mmo.nD,
      r.2.mem ((c.tc : Thread Cert.Mmo.nD Cert.Mmo.τ).loc Cert.Mmo.main_arg0) = m ((c.tc : Thread Cert.Mmo.nD Cert.Mmo.τ).loc Cert.Mmo.main_arg0)
      ∧ r.2.mem ((c.tc : Thread Cert.Mmo.nD Cert.Mmo.τ).loc Cert.Mmo.main_arg1) = m ((c.tc : Thread Cert.Mmo.nD Cert.Mmo.τ).loc Cert.Mmo.main_arg1)
      ∧ r.2.mem ((c.tc : Thread Cert.Mmo.nD Cert.Mmo.τ).loc Cert.Mmo.main_arg2) = m ((c.tc : Thread Cert.Mmo.nD Cert.Mmo.τ).loc Cert.Mmo.main_arg2))
      ∧ r.2.sem = fun _ => 0)

def quiescent_MmoIdeal [hMmoIdeal : Cert.MmoIdeal.Facts] : Prop :=
  ∀ (m : (ℓ : Loc Cert.MmoIdeal.nD Cert.MmoIdeal.τ Cert.MmoIdeal.sig) → Buf (Elt Ideal) ℓ) (g : Dev Cert.MmoIdeal.nD → PrngReg), Pre_MmoIdeal m →
    θ_run (Cert.MmoIdeal.defs (F := Ideal)) (onTc (τ := Cert.MmoIdeal.τ) (Cert.MmoIdeal.main (F := Ideal))) ⟨m, fun _ => 0, g⟩ (fun r => (∀ c : Dev Cert.MmoIdeal.nD,
      r.2.mem ((c.tc : Thread Cert.MmoIdeal.nD Cert.MmoIdeal.τ).loc Cert.MmoIdeal.main_arg0) = m ((c.tc : Thread Cert.MmoIdeal.nD Cert.MmoIdeal.τ).loc Cert.MmoIdeal.main_arg0)
      ∧ r.2.mem ((c.tc : Thread Cert.MmoIdeal.nD Cert.MmoIdeal.τ).loc Cert.MmoIdeal.main_arg1) = m ((c.tc : Thread Cert.MmoIdeal.nD Cert.MmoIdeal.τ).loc Cert.MmoIdeal.main_arg1)
      ∧ r.2.mem ((c.tc : Thread Cert.MmoIdeal.nD Cert.MmoIdeal.τ).loc Cert.MmoIdeal.main_arg2) = m ((c.tc : Thread Cert.MmoIdeal.nD Cert.MmoIdeal.τ).loc Cert.MmoIdeal.main_arg2))
      ∧ r.2.sem = fun _ => 0)

def quiescent_MmoRefIdeal [hMmoRefIdeal : Cert.MmoRefIdeal.Facts] : Prop :=
  ∀ (m : (ℓ : Loc Cert.MmoRefIdeal.nD Cert.MmoRefIdeal.τ Cert.MmoRefIdeal.sig) → Buf (Elt Ideal) ℓ) (g : Dev Cert.MmoRefIdeal.nD → PrngReg), Pre_MmoRefIdeal m →
    θ_run (Cert.MmoRefIdeal.defs (F := Ideal)) (onTc (τ := Cert.MmoRefIdeal.τ) (Cert.MmoRefIdeal.main (F := Ideal))) ⟨m, fun _ => 0, g⟩ (fun r => (∀ c : Dev Cert.MmoRefIdeal.nD,
      r.2.mem ((c.tc : Thread Cert.MmoRefIdeal.nD Cert.MmoRefIdeal.τ).loc Cert.MmoRefIdeal.main_arg0) = m ((c.tc : Thread Cert.MmoRefIdeal.nD Cert.MmoRefIdeal.τ).loc Cert.MmoRefIdeal.main_arg0)
      ∧ r.2.mem ((c.tc : Thread Cert.MmoRefIdeal.nD Cert.MmoRefIdeal.τ).loc Cert.MmoRefIdeal.main_arg1) = m ((c.tc : Thread Cert.MmoRefIdeal.nD Cert.MmoRefIdeal.τ).loc Cert.MmoRefIdeal.main_arg1)
      ∧ r.2.mem ((c.tc : Thread Cert.MmoRefIdeal.nD Cert.MmoRefIdeal.τ).loc Cert.MmoRefIdeal.main_arg2) = m ((c.tc : Thread Cert.MmoRefIdeal.nD Cert.MmoRefIdeal.τ).loc Cert.MmoRefIdeal.main_arg2))
      ∧ r.2.sem = fun _ => 0)

def quiescent_Mmu [hMmu : Cert.Mmu.Facts] : Prop :=
  ∀ (m : (ℓ : Loc Cert.Mmu.nD Cert.Mmu.τ Cert.Mmu.sig) → Buf (Elt Bits) ℓ) (g : Dev Cert.Mmu.nD → PrngReg), Pre_Mmu m →
    θ_run (Cert.Mmu.defs (F := Bits)) (onTc (τ := Cert.Mmu.τ) (Cert.Mmu.main (F := Bits))) ⟨m, fun _ => 0, g⟩ (fun r => (∀ c : Dev Cert.Mmu.nD,
      r.2.mem ((c.tc : Thread Cert.Mmu.nD Cert.Mmu.τ).loc Cert.Mmu.main_arg0) = m ((c.tc : Thread Cert.Mmu.nD Cert.Mmu.τ).loc Cert.Mmu.main_arg0)
      ∧ r.2.mem ((c.tc : Thread Cert.Mmu.nD Cert.Mmu.τ).loc Cert.Mmu.main_arg1) = m ((c.tc : Thread Cert.Mmu.nD Cert.Mmu.τ).loc Cert.Mmu.main_arg1))
      ∧ r.2.sem = fun _ => 0)

def quiescent_MmuIdeal [hMmuIdeal : Cert.MmuIdeal.Facts] : Prop :=
  ∀ (m : (ℓ : Loc Cert.MmuIdeal.nD Cert.MmuIdeal.τ Cert.MmuIdeal.sig) → Buf (Elt Ideal) ℓ) (g : Dev Cert.MmuIdeal.nD → PrngReg), Pre_MmuIdeal m →
    θ_run (Cert.MmuIdeal.defs (F := Ideal)) (onTc (τ := Cert.MmuIdeal.τ) (Cert.MmuIdeal.main (F := Ideal))) ⟨m, fun _ => 0, g⟩ (fun r => (∀ c : Dev Cert.MmuIdeal.nD,
      r.2.mem ((c.tc : Thread Cert.MmuIdeal.nD Cert.MmuIdeal.τ).loc Cert.MmuIdeal.main_arg0) = m ((c.tc : Thread Cert.MmuIdeal.nD Cert.MmuIdeal.τ).loc Cert.MmuIdeal.main_arg0)
      ∧ r.2.mem ((c.tc : Thread Cert.MmuIdeal.nD Cert.MmuIdeal.τ).loc Cert.MmuIdeal.main_arg1) = m ((c.tc : Thread Cert.MmuIdeal.nD Cert.MmuIdeal.τ).loc Cert.MmuIdeal.main_arg1))
      ∧ r.2.sem = fun _ => 0)

def quiescent_MmuRefIdeal [hMmuRefIdeal : Cert.MmuRefIdeal.Facts] : Prop :=
  ∀ (m : (ℓ : Loc Cert.MmuRefIdeal.nD Cert.MmuRefIdeal.τ Cert.MmuRefIdeal.sig) → Buf (Elt Ideal) ℓ) (g : Dev Cert.MmuRefIdeal.nD → PrngReg), Pre_MmuRefIdeal m →
    θ_run (Cert.MmuRefIdeal.defs (F := Ideal)) (onTc (τ := Cert.MmuRefIdeal.τ) (Cert.MmuRefIdeal.main (F := Ideal))) ⟨m, fun _ => 0, g⟩ (fun r => (∀ c : Dev Cert.MmuRefIdeal.nD,
      r.2.mem ((c.tc : Thread Cert.MmuRefIdeal.nD Cert.MmuRefIdeal.τ).loc Cert.MmuRefIdeal.main_arg0) = m ((c.tc : Thread Cert.MmuRefIdeal.nD Cert.MmuRefIdeal.τ).loc Cert.MmuRefIdeal.main_arg0)
      ∧ r.2.mem ((c.tc : Thread Cert.MmuRefIdeal.nD Cert.MmuRefIdeal.τ).loc Cert.MmuRefIdeal.main_arg1) = m ((c.tc : Thread Cert.MmuRefIdeal.nD Cert.MmuRefIdeal.τ).loc Cert.MmuRefIdeal.main_arg1))
      ∧ r.2.sem = fun _ => 0)

def quiescent_Mmd [hMmd : Cert.Mmd.Facts] : Prop :=
  ∀ (m : (ℓ : Loc Cert.Mmd.nD Cert.Mmd.τ Cert.Mmd.sig) → Buf (Elt Bits) ℓ) (g : Dev Cert.Mmd.nD → PrngReg), Pre_Mmd m →
    θ_run (Cert.Mmd.defs (F := Bits)) (onTc (τ := Cert.Mmd.τ) (Cert.Mmd.main (F := Bits))) ⟨m, fun _ => 0, g⟩ (fun r => (∀ c : Dev Cert.Mmd.nD,
      r.2.mem ((c.tc : Thread Cert.Mmd.nD Cert.Mmd.τ).loc Cert.Mmd.main_arg0) = m ((c.tc : Thread Cert.Mmd.nD Cert.Mmd.τ).loc Cert.Mmd.main_arg0)
      ∧ r.2.mem ((c.tc : Thread Cert.Mmd.nD Cert.Mmd.τ).loc Cert.Mmd.main_arg1) = m ((c.tc : Thread Cert.Mmd.nD Cert.Mmd.τ).loc Cert.Mmd.main_arg1))
      ∧ r.2.sem = fun _ => 0)

def quiescent_MmdIdeal [hMmdIdeal : Cert.MmdIdeal.Facts] : Prop :=
  ∀ (m : (ℓ : Loc Cert.MmdIdeal.nD Cert.MmdIdeal.τ Cert.MmdIdeal.sig) → Buf (Elt Ideal) ℓ) (g : Dev Cert.MmdIdeal.nD → PrngReg), Pre_MmdIdeal m →
    θ_run (Cert.MmdIdeal.defs (F := Ideal)) (onTc (τ := Cert.MmdIdeal.τ) (Cert.MmdIdeal.main (F := Ideal))) ⟨m, fun _ => 0, g⟩ (fun r => (∀ c : Dev Cert.MmdIdeal.nD,
      r.2.mem ((c.tc : Thread Cert.MmdIdeal.nD Cert.MmdIdeal.τ).loc Cert.MmdIdeal.main_arg0) = m ((c.tc : Thread Cert.MmdIdeal.nD Cert.MmdIdeal.τ).loc Cert.MmdIdeal.main_arg0)
      ∧ r.2.mem ((c.tc : Thread Cert.MmdIdeal.nD Cert.MmdIdeal.τ).loc Cert.MmdIdeal.main_arg1) = m ((c.tc : Thread Cert.MmdIdeal.nD Cert.MmdIdeal.τ).loc Cert.MmdIdeal.main_arg1))
      ∧ r.2.sem = fun _ => 0)

def quiescent_MmdRefIdeal [hMmdRefIdeal : Cert.MmdRefIdeal.Facts] : Prop :=
  ∀ (m : (ℓ : Loc Cert.MmdRefIdeal.nD Cert.MmdRefIdeal.τ Cert.MmdRefIdeal.sig) → Buf (Elt Ideal) ℓ) (g : Dev Cert.MmdRefIdeal.nD → PrngReg), Pre_MmdRefIdeal m →
    θ_run (Cert.MmdRefIdeal.defs (F := Ideal)) (onTc (τ := Cert.MmdRefIdeal.τ) (Cert.MmdRefIdeal.main (F := Ideal))) ⟨m, fun _ => 0, g⟩ (fun r => (∀ c : Dev Cert.MmdRefIdeal.nD,
      r.2.mem ((c.tc : Thread Cert.MmdRefIdeal.nD Cert.MmdRefIdeal.τ).loc Cert.MmdRefIdeal.main_arg0) = m ((c.tc : Thread Cert.MmdRefIdeal.nD Cert.MmdRefIdeal.τ).loc Cert.MmdRefIdeal.main_arg0)
      ∧ r.2.mem ((c.tc : Thread Cert.MmdRefIdeal.nD Cert.MmdRefIdeal.τ).loc Cert.MmdRefIdeal.main_arg1) = m ((c.tc : Thread Cert.MmdRefIdeal.nD Cert.MmdRefIdeal.τ).loc Cert.MmdRefIdeal.main_arg1))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_PreNorm [hPreNorm : Cert.PreNorm.Facts] : Prop :=
  ∀ (m : (ℓ : Loc Cert.PreNorm.nD Cert.PreNorm.τ Cert.PreNorm.sig) → Buf (Elt Bits) ℓ) (g : Dev Cert.PreNorm.nD → PrngReg), Pre_PreNorm m →
    θ_run (Cert.PreNorm.defs (F := Bits)) (onTc (τ := Cert.PreNorm.τ) (Cert.PreNorm.main (F := Bits))) ⟨m, fun _ => 0, g⟩ (fun r => (∀ c : Dev Cert.PreNorm.nD,
      r.2.mem ((c.tc : Thread Cert.PreNorm.nD Cert.PreNorm.τ).loc Cert.PreNorm.main_arg0) = m ((c.tc : Thread Cert.PreNorm.nD Cert.PreNorm.τ).loc Cert.PreNorm.main_arg0)
      ∧ r.2.mem ((c.tc : Thread Cert.PreNorm.nD Cert.PreNorm.τ).loc Cert.PreNorm.main_arg1) = m ((c.tc : Thread Cert.PreNorm.nD Cert.PreNorm.τ).loc Cert.PreNorm.main_arg1))
      ∧ r.2.sem = fun _ => 0)

def quiescent_PreNormIdeal [hPreNormIdeal : Cert.PreNormIdeal.Facts] : Prop :=
  ∀ (m : (ℓ : Loc Cert.PreNormIdeal.nD Cert.PreNormIdeal.τ Cert.PreNormIdeal.sig) → Buf (Elt Ideal) ℓ) (g : Dev Cert.PreNormIdeal.nD → PrngReg), Pre_PreNormIdeal m →
    θ_run (Cert.PreNormIdeal.defs (F := Ideal)) (onTc (τ := Cert.PreNormIdeal.τ) (Cert.PreNormIdeal.main (F := Ideal))) ⟨m, fun _ => 0, g⟩ (fun r => (∀ c : Dev Cert.PreNormIdeal.nD,
      r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
      ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1))
      ∧ r.2.sem = fun _ => 0)

def quiescent_PreNormRefIdeal [hPreNormRefIdeal : Cert.PreNormRefIdeal.Facts] : Prop :=
  ∀ (m : (ℓ : Loc Cert.PreNormRefIdeal.nD Cert.PreNormRefIdeal.τ Cert.PreNormRefIdeal.sig) → Buf (Elt Ideal) ℓ) (g : Dev Cert.PreNormRefIdeal.nD → PrngReg), Pre_PreNormRefIdeal m →
    θ_run (Cert.PreNormRefIdeal.defs (F := Ideal)) (onTc (τ := Cert.PreNormRefIdeal.τ) (Cert.PreNormRefIdeal.main (F := Ideal))) ⟨m, fun _ => 0, g⟩ (fun r => (∀ c : Dev Cert.PreNormRefIdeal.nD,
      r.2.mem ((c.tc : Thread Cert.PreNormRefIdeal.nD Cert.PreNormRefIdeal.τ).loc Cert.PreNormRefIdeal.main_arg0) = m ((c.tc : Thread Cert.PreNormRefIdeal.nD Cert.PreNormRefIdeal.τ).loc Cert.PreNormRefIdeal.main_arg0)
      ∧ r.2.mem ((c.tc : Thread Cert.PreNormRefIdeal.nD Cert.PreNormRefIdeal.τ).loc Cert.PreNormRefIdeal.main_arg1) = m ((c.tc : Thread Cert.PreNormRefIdeal.nD Cert.PreNormRefIdeal.τ).loc Cert.PreNormRefIdeal.main_arg1))
      ∧ r.2.sem = fun _ => 0)

def quiescent_Resid [hResid : Cert.Resid.Facts] : Prop :=
  ∀ (m : (ℓ : Loc Cert.Resid.nD Cert.Resid.τ Cert.Resid.sig) → Buf (Elt Bits) ℓ) (g : Dev Cert.Resid.nD → PrngReg), Pre_Resid m →
    θ_run (Cert.Resid.defs (F := Bits)) (onTc (τ := Cert.Resid.τ) (Cert.Resid.main (F := Bits))) ⟨m, fun _ => 0, g⟩ (fun r => (∀ c : Dev Cert.Resid.nD,
      r.2.mem ((c.tc : Thread Cert.Resid.nD Cert.Resid.τ).loc Cert.Resid.main_arg0) = m ((c.tc : Thread Cert.Resid.nD Cert.Resid.τ).loc Cert.Resid.main_arg0)
      ∧ r.2.mem ((c.tc : Thread Cert.Resid.nD Cert.Resid.τ).loc Cert.Resid.main_arg1) = m ((c.tc : Thread Cert.Resid.nD Cert.Resid.τ).loc Cert.Resid.main_arg1)
      ∧ r.2.mem ((c.tc : Thread Cert.Resid.nD Cert.Resid.τ).loc Cert.Resid.main_arg2) = m ((c.tc : Thread Cert.Resid.nD Cert.Resid.τ).loc Cert.Resid.main_arg2)
      ∧ r.2.mem ((c.tc : Thread Cert.Resid.nD Cert.Resid.τ).loc Cert.Resid.main_arg3) = m ((c.tc : Thread Cert.Resid.nD Cert.Resid.τ).loc Cert.Resid.main_arg3))
      ∧ r.2.sem = fun _ => 0)

def quiescent_ResidIdeal [hResidIdeal : Cert.ResidIdeal.Facts] : Prop :=
  ∀ (m : (ℓ : Loc Cert.ResidIdeal.nD Cert.ResidIdeal.τ Cert.ResidIdeal.sig) → Buf (Elt Ideal) ℓ) (g : Dev Cert.ResidIdeal.nD → PrngReg), Pre_ResidIdeal m →
    θ_run (Cert.ResidIdeal.defs (F := Ideal)) (onTc (τ := Cert.ResidIdeal.τ) (Cert.ResidIdeal.main (F := Ideal))) ⟨m, fun _ => 0, g⟩ (fun r => (∀ c : Dev Cert.ResidIdeal.nD,
      r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
      ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
      ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
      ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3))
      ∧ r.2.sem = fun _ => 0)

def quiescent_ResidRefIdeal [hResidRefIdeal : Cert.ResidRefIdeal.Facts] : Prop :=
  ∀ (m : (ℓ : Loc Cert.ResidRefIdeal.nD Cert.ResidRefIdeal.τ Cert.ResidRefIdeal.sig) → Buf (Elt Ideal) ℓ) (g : Dev Cert.ResidRefIdeal.nD → PrngReg), Pre_ResidRefIdeal m →
    θ_run (Cert.ResidRefIdeal.defs (F := Ideal)) (onTc (τ := Cert.ResidRefIdeal.τ) (Cert.ResidRefIdeal.main (F := Ideal))) ⟨m, fun _ => 0, g⟩ (fun r => (∀ c : Dev Cert.ResidRefIdeal.nD,
      r.2.mem ((c.tc : Thread Cert.ResidRefIdeal.nD Cert.ResidRefIdeal.τ).loc Cert.ResidRefIdeal.main_arg0) = m ((c.tc : Thread Cert.ResidRefIdeal.nD Cert.ResidRefIdeal.τ).loc Cert.ResidRefIdeal.main_arg0)
      ∧ r.2.mem ((c.tc : Thread Cert.ResidRefIdeal.nD Cert.ResidRefIdeal.τ).loc Cert.ResidRefIdeal.main_arg1) = m ((c.tc : Thread Cert.ResidRefIdeal.nD Cert.ResidRefIdeal.τ).loc Cert.ResidRefIdeal.main_arg1)
      ∧ r.2.mem ((c.tc : Thread Cert.ResidRefIdeal.nD Cert.ResidRefIdeal.τ).loc Cert.ResidRefIdeal.main_arg2) = m ((c.tc : Thread Cert.ResidRefIdeal.nD Cert.ResidRefIdeal.τ).loc Cert.ResidRefIdeal.main_arg2)
      ∧ r.2.mem ((c.tc : Thread Cert.ResidRefIdeal.nD Cert.ResidRefIdeal.τ).loc Cert.ResidRefIdeal.main_arg3) = m ((c.tc : Thread Cert.ResidRefIdeal.nD Cert.ResidRefIdeal.τ).loc Cert.ResidRefIdeal.main_arg3))
      ∧ r.2.sem = fun _ => 0)

def preserves_Sba_SbaIdeal : Prop :=
  IdealRules.named_const.Statement Cert.SbaIdeal.κ "skip" .f32 0xC2DC0000#32 ⊥
  ∧ IdealRules.named_const.Statement Cert.SbaIdeal.κ "scale" .f32 0x3DB504F3#32 (((Real.sqrt 128)⁻¹ : ℝ) : EReal)

def algebraic_SbaIdeal_SbaRefIdeal_pre_sba_finite [hSbaIdeal : Cert.SbaIdeal.Facts] [hSbaRefIdeal : Cert.SbaRefIdeal.Facts] [hPre_sba_finite : Cert.Pre_sba_finite.Facts] : Prop :=
  ∀ (m : (ℓ : Loc Cert.SbaIdeal.nD Cert.SbaIdeal.τ Cert.SbaIdeal.sig) → Buf (Elt Ideal) ℓ) (g : Dev Cert.SbaIdeal.nD → PrngReg)
    (m' : (ℓ : Loc Cert.SbaRefIdeal.nD Cert.SbaRefIdeal.τ Cert.SbaRefIdeal.sig) → Buf (Elt Ideal) ℓ) (g' : Dev Cert.SbaRefIdeal.nD → PrngReg), Pre_SbaIdeal_sba_finite m →
    (∀ c : Dev Cert.SbaIdeal.nD,
      m' ((c.tc : Thread Cert.SbaRefIdeal.nD Cert.SbaRefIdeal.τ).loc Cert.SbaRefIdeal.main_arg0) = m ((c.tc : Thread Cert.SbaIdeal.nD Cert.SbaIdeal.τ).loc Cert.SbaIdeal.main_arg0)) →
    ∃ (v0 : (c : Dev Cert.SbaIdeal.nD) → Buf (Elt Ideal) ((c.tc : Thread Cert.SbaIdeal.nD Cert.SbaIdeal.τ).loc Cert.SbaIdeal.main_v0)),
      θ_run (Cert.SbaIdeal.defs (F := Ideal)) (onTc (τ := Cert.SbaIdeal.τ) (Cert.SbaIdeal.main (F := Ideal))) ⟨m, fun _ => 0, g⟩ (fun r => ∀ c : Dev Cert.SbaIdeal.nD,
          r.2.mem ((c.tc : Thread Cert.SbaIdeal.nD Cert.SbaIdeal.τ).loc Cert.SbaIdeal.main_v0) = v0 c
          ∧ r.2.mem ((c.tc : Thread Cert.SbaIdeal.nD Cert.SbaIdeal.τ).loc Cert.SbaIdeal.main_arg0) = m ((c.tc : Thread Cert.SbaIdeal.nD Cert.SbaIdeal.τ).loc Cert.SbaIdeal.main_arg0))
      ∧ θ_run (Cert.SbaRefIdeal.defs (F := Ideal)) (onTc (τ := Cert.SbaRefIdeal.τ) (Cert.SbaRefIdeal.main (F := Ideal))) ⟨m', fun _ => 0, g'⟩ (fun r => ∀ c : Dev Cert.SbaRefIdeal.nD,
          r.2.mem ((c.tc : Thread Cert.SbaRefIdeal.nD Cert.SbaRefIdeal.τ).loc Cert.SbaRefIdeal.main_v32) = v0 c
          ∧ r.2.mem ((c.tc : Thread Cert.SbaRefIdeal.nD Cert.SbaRefIdeal.τ).loc Cert.SbaRefIdeal.main_arg0) = m' ((c.tc : Thread Cert.SbaRefIdeal.nD Cert.SbaRefIdeal.τ).loc Cert.SbaRefIdeal.main_arg0))

def preserves_Mma_MmaIdeal : Prop :=
  True

def algebraic_MmaIdeal_MmaRefIdeal [hMmaIdeal : Cert.MmaIdeal.Facts] [hMmaRefIdeal : Cert.MmaRefIdeal.Facts] : Prop :=
  ∀ (m : (ℓ : Loc Cert.MmaIdeal.nD Cert.MmaIdeal.τ Cert.MmaIdeal.sig) → Buf (Elt Ideal) ℓ) (g : Dev Cert.MmaIdeal.nD → PrngReg)
    (m' : (ℓ : Loc Cert.MmaRefIdeal.nD Cert.MmaRefIdeal.τ Cert.MmaRefIdeal.sig) → Buf (Elt Ideal) ℓ) (g' : Dev Cert.MmaRefIdeal.nD → PrngReg), Pre_MmaIdeal m →
    (∀ c : Dev Cert.MmaIdeal.nD,
      m' ((c.tc : Thread Cert.MmaRefIdeal.nD Cert.MmaRefIdeal.τ).loc Cert.MmaRefIdeal.main_arg0) = m ((c.tc : Thread Cert.MmaIdeal.nD Cert.MmaIdeal.τ).loc Cert.MmaIdeal.main_arg0)
      ∧ m' ((c.tc : Thread Cert.MmaRefIdeal.nD Cert.MmaRefIdeal.τ).loc Cert.MmaRefIdeal.main_arg1) = m ((c.tc : Thread Cert.MmaIdeal.nD Cert.MmaIdeal.τ).loc Cert.MmaIdeal.main_arg1)) →
    ∃ (v0 : (c : Dev Cert.MmaIdeal.nD) → Buf (Elt Ideal) ((c.tc : Thread Cert.MmaIdeal.nD Cert.MmaIdeal.τ).loc Cert.MmaIdeal.main_v3)),
      θ_run (Cert.MmaIdeal.defs (F := Ideal)) (onTc (τ := Cert.MmaIdeal.τ) (Cert.MmaIdeal.main (F := Ideal))) ⟨m, fun _ => 0, g⟩ (fun r => ∀ c : Dev Cert.MmaIdeal.nD,
          r.2.mem ((c.tc : Thread Cert.MmaIdeal.nD Cert.MmaIdeal.τ).loc Cert.MmaIdeal.main_v3) = v0 c
          ∧ r.2.mem ((c.tc : Thread Cert.MmaIdeal.nD Cert.MmaIdeal.τ).loc Cert.MmaIdeal.main_arg0) = m ((c.tc : Thread Cert.MmaIdeal.nD Cert.MmaIdeal.τ).loc Cert.MmaIdeal.main_arg0)
          ∧ r.2.mem ((c.tc : Thread Cert.MmaIdeal.nD Cert.MmaIdeal.τ).loc Cert.MmaIdeal.main_arg1) = m ((c.tc : Thread Cert.MmaIdeal.nD Cert.MmaIdeal.τ).loc Cert.MmaIdeal.main_arg1))
      ∧ θ_run (Cert.MmaRefIdeal.defs (F := Ideal)) (onTc (τ := Cert.MmaRefIdeal.τ) (Cert.MmaRefIdeal.main (F := Ideal))) ⟨m', fun _ => 0, g'⟩ (fun r => ∀ c : Dev Cert.MmaRefIdeal.nD,
          r.2.mem ((c.tc : Thread Cert.MmaRefIdeal.nD Cert.MmaRefIdeal.τ).loc Cert.MmaRefIdeal.main_v5) = v0 c
          ∧ r.2.mem ((c.tc : Thread Cert.MmaRefIdeal.nD Cert.MmaRefIdeal.τ).loc Cert.MmaRefIdeal.main_arg0) = m' ((c.tc : Thread Cert.MmaRefIdeal.nD Cert.MmaRefIdeal.τ).loc Cert.MmaRefIdeal.main_arg0)
          ∧ r.2.mem ((c.tc : Thread Cert.MmaRefIdeal.nD Cert.MmaRefIdeal.τ).loc Cert.MmaRefIdeal.main_arg1) = m' ((c.tc : Thread Cert.MmaRefIdeal.nD Cert.MmaRefIdeal.τ).loc Cert.MmaRefIdeal.main_arg1))

def preserves_Mmb_MmbIdeal : Prop :=
  True

def algebraic_MmbIdeal_MmbRefIdeal [hMmbIdeal : Cert.MmbIdeal.Facts] [hMmbRefIdeal : Cert.MmbRefIdeal.Facts] : Prop :=
  ∀ (m : (ℓ : Loc Cert.MmbIdeal.nD Cert.MmbIdeal.τ Cert.MmbIdeal.sig) → Buf (Elt Ideal) ℓ) (g : Dev Cert.MmbIdeal.nD → PrngReg)
    (m' : (ℓ : Loc Cert.MmbRefIdeal.nD Cert.MmbRefIdeal.τ Cert.MmbRefIdeal.sig) → Buf (Elt Ideal) ℓ) (g' : Dev Cert.MmbRefIdeal.nD → PrngReg), Pre_MmbIdeal m →
    (∀ c : Dev Cert.MmbIdeal.nD,
      m' ((c.tc : Thread Cert.MmbRefIdeal.nD Cert.MmbRefIdeal.τ).loc Cert.MmbRefIdeal.main_arg0) = m ((c.tc : Thread Cert.MmbIdeal.nD Cert.MmbIdeal.τ).loc Cert.MmbIdeal.main_arg0)
      ∧ m' ((c.tc : Thread Cert.MmbRefIdeal.nD Cert.MmbRefIdeal.τ).loc Cert.MmbRefIdeal.main_arg1) = m ((c.tc : Thread Cert.MmbIdeal.nD Cert.MmbIdeal.τ).loc Cert.MmbIdeal.main_arg1)) →
    ∃ (v0 : (c : Dev Cert.MmbIdeal.nD) → Buf (Elt Ideal) ((c.tc : Thread Cert.MmbIdeal.nD Cert.MmbIdeal.τ).loc Cert.MmbIdeal.main_v3)),
      θ_run (Cert.MmbIdeal.defs (F := Ideal)) (onTc (τ := Cert.MmbIdeal.τ) (Cert.MmbIdeal.main (F := Ideal))) ⟨m, fun _ => 0, g⟩ (fun r => ∀ c : Dev Cert.MmbIdeal.nD,
          r.2.mem ((c.tc : Thread Cert.MmbIdeal.nD Cert.MmbIdeal.τ).loc Cert.MmbIdeal.main_v3) = v0 c
          ∧ r.2.mem ((c.tc : Thread Cert.MmbIdeal.nD Cert.MmbIdeal.τ).loc Cert.MmbIdeal.main_arg0) = m ((c.tc : Thread Cert.MmbIdeal.nD Cert.MmbIdeal.τ).loc Cert.MmbIdeal.main_arg0)
          ∧ r.2.mem ((c.tc : Thread Cert.MmbIdeal.nD Cert.MmbIdeal.τ).loc Cert.MmbIdeal.main_arg1) = m ((c.tc : Thread Cert.MmbIdeal.nD Cert.MmbIdeal.τ).loc Cert.MmbIdeal.main_arg1))
      ∧ θ_run (Cert.MmbRefIdeal.defs (F := Ideal)) (onTc (τ := Cert.MmbRefIdeal.τ) (Cert.MmbRefIdeal.main (F := Ideal))) ⟨m', fun _ => 0, g'⟩ (fun r => ∀ c : Dev Cert.MmbRefIdeal.nD,
          r.2.mem ((c.tc : Thread Cert.MmbRefIdeal.nD Cert.MmbRefIdeal.τ).loc Cert.MmbRefIdeal.main_v4) = v0 c
          ∧ r.2.mem ((c.tc : Thread Cert.MmbRefIdeal.nD Cert.MmbRefIdeal.τ).loc Cert.MmbRefIdeal.main_arg0) = m' ((c.tc : Thread Cert.MmbRefIdeal.nD Cert.MmbRefIdeal.τ).loc Cert.MmbRefIdeal.main_arg0)
          ∧ r.2.mem ((c.tc : Thread Cert.MmbRefIdeal.nD Cert.MmbRefIdeal.τ).loc Cert.MmbRefIdeal.main_arg1) = m' ((c.tc : Thread Cert.MmbRefIdeal.nD Cert.MmbRefIdeal.τ).loc Cert.MmbRefIdeal.main_arg1))

def preserves_Mmo_MmoIdeal : Prop :=
  True

def algebraic_MmoIdeal_MmoRefIdeal [hMmoIdeal : Cert.MmoIdeal.Facts] [hMmoRefIdeal : Cert.MmoRefIdeal.Facts] : Prop :=
  ∀ (m : (ℓ : Loc Cert.MmoIdeal.nD Cert.MmoIdeal.τ Cert.MmoIdeal.sig) → Buf (Elt Ideal) ℓ) (g : Dev Cert.MmoIdeal.nD → PrngReg)
    (m' : (ℓ : Loc Cert.MmoRefIdeal.nD Cert.MmoRefIdeal.τ Cert.MmoRefIdeal.sig) → Buf (Elt Ideal) ℓ) (g' : Dev Cert.MmoRefIdeal.nD → PrngReg), Pre_MmoIdeal m →
    (∀ c : Dev Cert.MmoIdeal.nD,
      m' ((c.tc : Thread Cert.MmoRefIdeal.nD Cert.MmoRefIdeal.τ).loc Cert.MmoRefIdeal.main_arg0) = m ((c.tc : Thread Cert.MmoIdeal.nD Cert.MmoIdeal.τ).loc Cert.MmoIdeal.main_arg0)
      ∧ m' ((c.tc : Thread Cert.MmoRefIdeal.nD Cert.MmoRefIdeal.τ).loc Cert.MmoRefIdeal.main_arg1) = m ((c.tc : Thread Cert.MmoIdeal.nD Cert.MmoIdeal.τ).loc Cert.MmoIdeal.main_arg1)
      ∧ m' ((c.tc : Thread Cert.MmoRefIdeal.nD Cert.MmoRefIdeal.τ).loc Cert.MmoRefIdeal.main_arg2) = m ((c.tc : Thread Cert.MmoIdeal.nD Cert.MmoIdeal.τ).loc Cert.MmoIdeal.main_arg2)) →
    ∃ (v0 : (c : Dev Cert.MmoIdeal.nD) → Buf (Elt Ideal) ((c.tc : Thread Cert.MmoIdeal.nD Cert.MmoIdeal.τ).loc Cert.MmoIdeal.main_v3)),
      θ_run (Cert.MmoIdeal.defs (F := Ideal)) (onTc (τ := Cert.MmoIdeal.τ) (Cert.MmoIdeal.main (F := Ideal))) ⟨m, fun _ => 0, g⟩ (fun r => ∀ c : Dev Cert.MmoIdeal.nD,
          r.2.mem ((c.tc : Thread Cert.MmoIdeal.nD Cert.MmoIdeal.τ).loc Cert.MmoIdeal.main_v3) = v0 c
          ∧ r.2.mem ((c.tc : Thread Cert.MmoIdeal.nD Cert.MmoIdeal.τ).loc Cert.MmoIdeal.main_arg0) = m ((c.tc : Thread Cert.MmoIdeal.nD Cert.MmoIdeal.τ).loc Cert.MmoIdeal.main_arg0)
          ∧ r.2.mem ((c.tc : Thread Cert.MmoIdeal.nD Cert.MmoIdeal.τ).loc Cert.MmoIdeal.main_arg1) = m ((c.tc : Thread Cert.MmoIdeal.nD Cert.MmoIdeal.τ).loc Cert.MmoIdeal.main_arg1)
          ∧ r.2.mem ((c.tc : Thread Cert.MmoIdeal.nD Cert.MmoIdeal.τ).loc Cert.MmoIdeal.main_arg2) = m ((c.tc : Thread Cert.MmoIdeal.nD Cert.MmoIdeal.τ).loc Cert.MmoIdeal.main_arg2))
      ∧ θ_run (Cert.MmoRefIdeal.defs (F := Ideal)) (onTc (τ := Cert.MmoRefIdeal.τ) (Cert.MmoRefIdeal.main (F := Ideal))) ⟨m', fun _ => 0, g'⟩ (fun r => ∀ c : Dev Cert.MmoRefIdeal.nD,
          r.2.mem ((c.tc : Thread Cert.MmoRefIdeal.nD Cert.MmoRefIdeal.τ).loc Cert.MmoRefIdeal.main_v5) = v0 c
          ∧ r.2.mem ((c.tc : Thread Cert.MmoRefIdeal.nD Cert.MmoRefIdeal.τ).loc Cert.MmoRefIdeal.main_arg0) = m' ((c.tc : Thread Cert.MmoRefIdeal.nD Cert.MmoRefIdeal.τ).loc Cert.MmoRefIdeal.main_arg0)
          ∧ r.2.mem ((c.tc : Thread Cert.MmoRefIdeal.nD Cert.MmoRefIdeal.τ).loc Cert.MmoRefIdeal.main_arg1) = m' ((c.tc : Thread Cert.MmoRefIdeal.nD Cert.MmoRefIdeal.τ).loc Cert.MmoRefIdeal.main_arg1)
          ∧ r.2.mem ((c.tc : Thread Cert.MmoRefIdeal.nD Cert.MmoRefIdeal.τ).loc Cert.MmoRefIdeal.main_arg2) = m' ((c.tc : Thread Cert.MmoRefIdeal.nD Cert.MmoRefIdeal.τ).loc Cert.MmoRefIdeal.main_arg2))

def preserves_Mmu_MmuIdeal : Prop :=
  True

def algebraic_MmuIdeal_MmuRefIdeal [hMmuIdeal : Cert.MmuIdeal.Facts] [hMmuRefIdeal : Cert.MmuRefIdeal.Facts] : Prop :=
  ∀ (m : (ℓ : Loc Cert.MmuIdeal.nD Cert.MmuIdeal.τ Cert.MmuIdeal.sig) → Buf (Elt Ideal) ℓ) (g : Dev Cert.MmuIdeal.nD → PrngReg)
    (m' : (ℓ : Loc Cert.MmuRefIdeal.nD Cert.MmuRefIdeal.τ Cert.MmuRefIdeal.sig) → Buf (Elt Ideal) ℓ) (g' : Dev Cert.MmuRefIdeal.nD → PrngReg), Pre_MmuIdeal m →
    (∀ c : Dev Cert.MmuIdeal.nD,
      m' ((c.tc : Thread Cert.MmuRefIdeal.nD Cert.MmuRefIdeal.τ).loc Cert.MmuRefIdeal.main_arg0) = m ((c.tc : Thread Cert.MmuIdeal.nD Cert.MmuIdeal.τ).loc Cert.MmuIdeal.main_arg0)
      ∧ m' ((c.tc : Thread Cert.MmuRefIdeal.nD Cert.MmuRefIdeal.τ).loc Cert.MmuRefIdeal.main_arg1) = m ((c.tc : Thread Cert.MmuIdeal.nD Cert.MmuIdeal.τ).loc Cert.MmuIdeal.main_arg1)) →
    ∃ (v0 : (c : Dev Cert.MmuIdeal.nD) → Buf (Elt Ideal) ((c.tc : Thread Cert.MmuIdeal.nD Cert.MmuIdeal.τ).loc Cert.MmuIdeal.main_v3)),
      θ_run (Cert.MmuIdeal.defs (F := Ideal)) (onTc (τ := Cert.MmuIdeal.τ) (Cert.MmuIdeal.main (F := Ideal))) ⟨m, fun _ => 0, g⟩ (fun r => ∀ c : Dev Cert.MmuIdeal.nD,
          r.2.mem ((c.tc : Thread Cert.MmuIdeal.nD Cert.MmuIdeal.τ).loc Cert.MmuIdeal.main_v3) = v0 c
          ∧ r.2.mem ((c.tc : Thread Cert.MmuIdeal.nD Cert.MmuIdeal.τ).loc Cert.MmuIdeal.main_arg0) = m ((c.tc : Thread Cert.MmuIdeal.nD Cert.MmuIdeal.τ).loc Cert.MmuIdeal.main_arg0)
          ∧ r.2.mem ((c.tc : Thread Cert.MmuIdeal.nD Cert.MmuIdeal.τ).loc Cert.MmuIdeal.main_arg1) = m ((c.tc : Thread Cert.MmuIdeal.nD Cert.MmuIdeal.τ).loc Cert.MmuIdeal.main_arg1))
      ∧ θ_run (Cert.MmuRefIdeal.defs (F := Ideal)) (onTc (τ := Cert.MmuRefIdeal.τ) (Cert.MmuRefIdeal.main (F := Ideal))) ⟨m', fun _ => 0, g'⟩ (fun r => ∀ c : Dev Cert.MmuRefIdeal.nD,
          r.2.mem ((c.tc : Thread Cert.MmuRefIdeal.nD Cert.MmuRefIdeal.τ).loc Cert.MmuRefIdeal.main_v3) = v0 c
          ∧ r.2.mem ((c.tc : Thread Cert.MmuRefIdeal.nD Cert.MmuRefIdeal.τ).loc Cert.MmuRefIdeal.main_arg0) = m' ((c.tc : Thread Cert.MmuRefIdeal.nD Cert.MmuRefIdeal.τ).loc Cert.MmuRefIdeal.main_arg0)
          ∧ r.2.mem ((c.tc : Thread Cert.MmuRefIdeal.nD Cert.MmuRefIdeal.τ).loc Cert.MmuRefIdeal.main_arg1) = m' ((c.tc : Thread Cert.MmuRefIdeal.nD Cert.MmuRefIdeal.τ).loc Cert.MmuRefIdeal.main_arg1))

def preserves_Mmd_MmdIdeal : Prop :=
  True

def algebraic_MmdIdeal_MmdRefIdeal [hMmdIdeal : Cert.MmdIdeal.Facts] [hMmdRefIdeal : Cert.MmdRefIdeal.Facts] : Prop :=
  ∀ (m : (ℓ : Loc Cert.MmdIdeal.nD Cert.MmdIdeal.τ Cert.MmdIdeal.sig) → Buf (Elt Ideal) ℓ) (g : Dev Cert.MmdIdeal.nD → PrngReg)
    (m' : (ℓ : Loc Cert.MmdRefIdeal.nD Cert.MmdRefIdeal.τ Cert.MmdRefIdeal.sig) → Buf (Elt Ideal) ℓ) (g' : Dev Cert.MmdRefIdeal.nD → PrngReg), Pre_MmdIdeal m →
    (∀ c : Dev Cert.MmdIdeal.nD,
      m' ((c.tc : Thread Cert.MmdRefIdeal.nD Cert.MmdRefIdeal.τ).loc Cert.MmdRefIdeal.main_arg0) = m ((c.tc : Thread Cert.MmdIdeal.nD Cert.MmdIdeal.τ).loc Cert.MmdIdeal.main_arg0)
      ∧ m' ((c.tc : Thread Cert.MmdRefIdeal.nD Cert.MmdRefIdeal.τ).loc Cert.MmdRefIdeal.main_arg1) = m ((c.tc : Thread Cert.MmdIdeal.nD Cert.MmdIdeal.τ).loc Cert.MmdIdeal.main_arg1)) →
    ∃ (v0 : (c : Dev Cert.MmdIdeal.nD) → Buf (Elt Ideal) ((c.tc : Thread Cert.MmdIdeal.nD Cert.MmdIdeal.τ).loc Cert.MmdIdeal.main_v3)),
      θ_run (Cert.MmdIdeal.defs (F := Ideal)) (onTc (τ := Cert.MmdIdeal.τ) (Cert.MmdIdeal.main (F := Ideal))) ⟨m, fun _ => 0, g⟩ (fun r => ∀ c : Dev Cert.MmdIdeal.nD,
          r.2.mem ((c.tc : Thread Cert.MmdIdeal.nD Cert.MmdIdeal.τ).loc Cert.MmdIdeal.main_v3) = v0 c
          ∧ r.2.mem ((c.tc : Thread Cert.MmdIdeal.nD Cert.MmdIdeal.τ).loc Cert.MmdIdeal.main_arg0) = m ((c.tc : Thread Cert.MmdIdeal.nD Cert.MmdIdeal.τ).loc Cert.MmdIdeal.main_arg0)
          ∧ r.2.mem ((c.tc : Thread Cert.MmdIdeal.nD Cert.MmdIdeal.τ).loc Cert.MmdIdeal.main_arg1) = m ((c.tc : Thread Cert.MmdIdeal.nD Cert.MmdIdeal.τ).loc Cert.MmdIdeal.main_arg1))
      ∧ θ_run (Cert.MmdRefIdeal.defs (F := Ideal)) (onTc (τ := Cert.MmdRefIdeal.τ) (Cert.MmdRefIdeal.main (F := Ideal))) ⟨m', fun _ => 0, g'⟩ (fun r => ∀ c : Dev Cert.MmdRefIdeal.nD,
          r.2.mem ((c.tc : Thread Cert.MmdRefIdeal.nD Cert.MmdRefIdeal.τ).loc Cert.MmdRefIdeal.main_v3) = v0 c
          ∧ r.2.mem ((c.tc : Thread Cert.MmdRefIdeal.nD Cert.MmdRefIdeal.τ).loc Cert.MmdRefIdeal.main_arg0) = m' ((c.tc : Thread Cert.MmdRefIdeal.nD Cert.MmdRefIdeal.τ).loc Cert.MmdRefIdeal.main_arg0)
          ∧ r.2.mem ((c.tc : Thread Cert.MmdRefIdeal.nD Cert.MmdRefIdeal.τ).loc Cert.MmdRefIdeal.main_arg1) = m' ((c.tc : Thread Cert.MmdRefIdeal.nD Cert.MmdRefIdeal.τ).loc Cert.MmdRefIdeal.main_arg1))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v5)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v5) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v32) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v3) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v15) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_PreNorm_PreNormIdeal : Prop :=
  True

def algebraic_PreNormIdeal_PreNormRefIdeal [hPreNormIdeal : Cert.PreNormIdeal.Facts] [hPreNormRefIdeal : Cert.PreNormRefIdeal.Facts] : Prop :=
  ∀ (m : (ℓ : Loc Cert.PreNormIdeal.nD Cert.PreNormIdeal.τ Cert.PreNormIdeal.sig) → Buf (Elt Ideal) ℓ) (g : Dev Cert.PreNormIdeal.nD → PrngReg)
    (m' : (ℓ : Loc Cert.PreNormRefIdeal.nD Cert.PreNormRefIdeal.τ Cert.PreNormRefIdeal.sig) → Buf (Elt Ideal) ℓ) (g' : Dev Cert.PreNormRefIdeal.nD → PrngReg), Pre_PreNormIdeal m →
    (∀ c : Dev Cert.PreNormIdeal.nD,
      m' ((c.tc : Thread Cert.PreNormRefIdeal.nD Cert.PreNormRefIdeal.τ).loc Cert.PreNormRefIdeal.main_arg0) = m ((c.tc : Thread Cert.PreNormIdeal.nD Cert.PreNormIdeal.τ).loc Cert.PreNormIdeal.main_arg0)
      ∧ m' ((c.tc : Thread Cert.PreNormRefIdeal.nD Cert.PreNormRefIdeal.τ).loc Cert.PreNormRefIdeal.main_arg1) = m ((c.tc : Thread Cert.PreNormIdeal.nD Cert.PreNormIdeal.τ).loc Cert.PreNormIdeal.main_arg1)) →
    ∃ (v0 : (c : Dev Cert.PreNormIdeal.nD) → Buf (Elt Ideal) ((c.tc : Thread Cert.PreNormIdeal.nD Cert.PreNormIdeal.τ).loc Cert.PreNormIdeal.main_v4)),
      θ_run (Cert.PreNormIdeal.defs (F := Ideal)) (onTc (τ := Cert.PreNormIdeal.τ) (Cert.PreNormIdeal.main (F := Ideal))) ⟨m, fun _ => 0, g⟩ (fun r => ∀ c : Dev Cert.PreNormIdeal.nD,
          r.2.mem ((c.tc : Thread Cert.PreNormIdeal.nD Cert.PreNormIdeal.τ).loc Cert.PreNormIdeal.main_v4) = v0 c
          ∧ r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
          ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1))
      ∧ θ_run (Cert.PreNormRefIdeal.defs (F := Ideal)) (onTc (τ := Cert.PreNormRefIdeal.τ) (Cert.PreNormRefIdeal.main (F := Ideal))) ⟨m', fun _ => 0, g'⟩ (fun r => ∀ c : Dev Cert.PreNormRefIdeal.nD,
          r.2.mem ((c.tc : Thread Cert.PreNormRefIdeal.nD Cert.PreNormRefIdeal.τ).loc Cert.PreNormRefIdeal.main_v16) = v0 c
          ∧ r.2.mem ((c.tc : Thread Cert.PreNormRefIdeal.nD Cert.PreNormRefIdeal.τ).loc Cert.PreNormRefIdeal.main_arg0) = m' ((c.tc : Thread Cert.PreNormRefIdeal.nD Cert.PreNormRefIdeal.τ).loc Cert.PreNormRefIdeal.main_arg0)
          ∧ r.2.mem ((c.tc : Thread Cert.PreNormRefIdeal.nD Cert.PreNormRefIdeal.τ).loc Cert.PreNormRefIdeal.main_arg1) = m' ((c.tc : Thread Cert.PreNormRefIdeal.nD Cert.PreNormRefIdeal.τ).loc Cert.PreNormRefIdeal.main_arg1))

def preserves_Resid_ResidIdeal : Prop :=
  True

def algebraic_ResidIdeal_ResidRefIdeal [hResidIdeal : Cert.ResidIdeal.Facts] [hResidRefIdeal : Cert.ResidRefIdeal.Facts] : Prop :=
  ∀ (m : (ℓ : Loc Cert.ResidIdeal.nD Cert.ResidIdeal.τ Cert.ResidIdeal.sig) → Buf (Elt Ideal) ℓ) (g : Dev Cert.ResidIdeal.nD → PrngReg)
    (m' : (ℓ : Loc Cert.ResidRefIdeal.nD Cert.ResidRefIdeal.τ Cert.ResidRefIdeal.sig) → Buf (Elt Ideal) ℓ) (g' : Dev Cert.ResidRefIdeal.nD → PrngReg), Pre_ResidIdeal m →
    (∀ c : Dev Cert.ResidIdeal.nD,
      m' ((c.tc : Thread Cert.ResidRefIdeal.nD Cert.ResidRefIdeal.τ).loc Cert.ResidRefIdeal.main_arg0) = m ((c.tc : Thread Cert.ResidIdeal.nD Cert.ResidIdeal.τ).loc Cert.ResidIdeal.main_arg0)
      ∧ m' ((c.tc : Thread Cert.ResidRefIdeal.nD Cert.ResidRefIdeal.τ).loc Cert.ResidRefIdeal.main_arg1) = m ((c.tc : Thread Cert.ResidIdeal.nD Cert.ResidIdeal.τ).loc Cert.ResidIdeal.main_arg1)
      ∧ m' ((c.tc : Thread Cert.ResidRefIdeal.nD Cert.ResidRefIdeal.τ).loc Cert.ResidRefIdeal.main_arg2) = m ((c.tc : Thread Cert.ResidIdeal.nD Cert.ResidIdeal.τ).loc Cert.ResidIdeal.main_arg2)
      ∧ m' ((c.tc : Thread Cert.ResidRefIdeal.nD Cert.ResidRefIdeal.τ).loc Cert.ResidRefIdeal.main_arg3) = m ((c.tc : Thread Cert.ResidIdeal.nD Cert.ResidIdeal.τ).loc Cert.ResidIdeal.main_arg3)) →
    ∃ (v0 : (c : Dev Cert.ResidIdeal.nD) → Buf (Elt Ideal) ((c.tc : Thread Cert.ResidIdeal.nD Cert.ResidIdeal.τ).loc Cert.ResidIdeal.main_v6_0)) (v1 : (c : Dev Cert.ResidIdeal.nD) → Buf (Elt Ideal) ((c.tc : Thread Cert.ResidIdeal.nD Cert.ResidIdeal.τ).loc Cert.ResidIdeal.main_v6_1)),
      θ_run (Cert.ResidIdeal.defs (F := Ideal)) (onTc (τ := Cert.ResidIdeal.τ) (Cert.ResidIdeal.main (F := Ideal))) ⟨m, fun _ => 0, g⟩ (fun r => ∀ c : Dev Cert.ResidIdeal.nD,
          r.2.mem ((c.tc : Thread Cert.ResidIdeal.nD Cert.ResidIdeal.τ).loc Cert.ResidIdeal.main_v6_0) = v0 c
          ∧ r.2.mem ((c.tc : Thread Cert.ResidIdeal.nD Cert.ResidIdeal.τ).loc Cert.ResidIdeal.main_v6_1) = v1 c
          ∧ r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
          ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
          ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
          ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3))
      ∧ θ_run (Cert.ResidRefIdeal.defs (F := Ideal)) (onTc (τ := Cert.ResidRefIdeal.τ) (Cert.ResidRefIdeal.main (F := Ideal))) ⟨m', fun _ => 0, g'⟩ (fun r => ∀ c : Dev Cert.ResidRefIdeal.nD,
          r.2.mem ((c.tc : Thread Cert.ResidRefIdeal.nD Cert.ResidRefIdeal.τ).loc Cert.ResidRefIdeal.main_v15) = v0 c
          ∧ r.2.mem ((c.tc : Thread Cert.ResidRefIdeal.nD Cert.ResidRefIdeal.τ).loc Cert.ResidRefIdeal.main_v31) = v1 c
          ∧ r.2.mem ((c.tc : Thread Cert.ResidRefIdeal.nD Cert.ResidRefIdeal.τ).loc Cert.ResidRefIdeal.main_arg0) = m' ((c.tc : Thread Cert.ResidRefIdeal.nD Cert.ResidRefIdeal.τ).loc Cert.ResidRefIdeal.main_arg0)
          ∧ r.2.mem ((c.tc : Thread Cert.ResidRefIdeal.nD Cert.ResidRefIdeal.τ).loc Cert.ResidRefIdeal.main_arg1) = m' ((c.tc : Thread Cert.ResidRefIdeal.nD Cert.ResidRefIdeal.τ).loc Cert.ResidRefIdeal.main_arg1)
          ∧ r.2.mem ((c.tc : Thread Cert.ResidRefIdeal.nD Cert.ResidRefIdeal.τ).loc Cert.ResidRefIdeal.main_arg2) = m' ((c.tc : Thread Cert.ResidRefIdeal.nD Cert.ResidRefIdeal.τ).loc Cert.ResidRefIdeal.main_arg2)
          ∧ r.2.mem ((c.tc : Thread Cert.ResidRefIdeal.nD Cert.ResidRefIdeal.τ).loc Cert.ResidRefIdeal.main_arg3) = m' ((c.tc : Thread Cert.ResidRefIdeal.nD Cert.ResidRefIdeal.τ).loc Cert.ResidRefIdeal.main_arg3))

def Claim : Prop :=
  ∃ (hSba : Cert.Sba.Facts) (hSbaIdeal : Cert.SbaIdeal.Facts) (hSbaRefIdeal : Cert.SbaRefIdeal.Facts) (hMma : Cert.Mma.Facts) (hMmaIdeal : Cert.MmaIdeal.Facts) (hMmaRefIdeal : Cert.MmaRefIdeal.Facts) (hMmb : Cert.Mmb.Facts) (hMmbIdeal : Cert.MmbIdeal.Facts) (hMmbRefIdeal : Cert.MmbRefIdeal.Facts) (hMmo : Cert.Mmo.Facts) (hMmoIdeal : Cert.MmoIdeal.Facts) (hMmoRefIdeal : Cert.MmoRefIdeal.Facts) (hMmu : Cert.Mmu.Facts) (hMmuIdeal : Cert.MmuIdeal.Facts) (hMmuRefIdeal : Cert.MmuRefIdeal.Facts) (hMmd : Cert.Mmd.Facts) (hMmdIdeal : Cert.MmdIdeal.Facts) (hMmdRefIdeal : Cert.MmdRefIdeal.Facts) (hConv : Cert.Conv.Facts) (hConvIdeal : Cert.ConvIdeal.Facts) (hConvRefIdeal : Cert.ConvRefIdeal.Facts) (hNorm : Cert.Norm.Facts) (hNormIdeal : Cert.NormIdeal.Facts) (hNormRefIdeal : Cert.NormRefIdeal.Facts) (hPreNorm : Cert.PreNorm.Facts) (hPreNormIdeal : Cert.PreNormIdeal.Facts) (hPreNormRefIdeal : Cert.PreNormRefIdeal.Facts) (hResid : Cert.Resid.Facts) (hResidIdeal : Cert.ResidIdeal.Facts) (hResidRefIdeal : Cert.ResidRefIdeal.Facts) (hPre_sba_finite : Cert.Pre_sba_finite.Facts),
    quiescent_Sba (hSba := hSba)
    ∧ quiescent_SbaIdeal (hSbaIdeal := hSbaIdeal)
    ∧ quiescent_SbaIdeal_pre_sba_finite (hSbaIdeal := hSbaIdeal) (hPre_sba_finite := hPre_sba_finite)
    ∧ quiescent_SbaRefIdeal (hSbaRefIdeal := hSbaRefIdeal)
    ∧ quiescent_SbaRefIdeal_pre_sba_finite (hSbaRefIdeal := hSbaRefIdeal) (hPre_sba_finite := hPre_sba_finite)
    ∧ quiescent_Mma (hMma := hMma)
    ∧ quiescent_MmaIdeal (hMmaIdeal := hMmaIdeal)
    ∧ quiescent_MmaRefIdeal (hMmaRefIdeal := hMmaRefIdeal)
    ∧ quiescent_Mmb (hMmb := hMmb)
    ∧ quiescent_MmbIdeal (hMmbIdeal := hMmbIdeal)
    ∧ quiescent_MmbRefIdeal (hMmbRefIdeal := hMmbRefIdeal)
    ∧ quiescent_Mmo (hMmo := hMmo)
    ∧ quiescent_MmoIdeal (hMmoIdeal := hMmoIdeal)
    ∧ quiescent_MmoRefIdeal (hMmoRefIdeal := hMmoRefIdeal)
    ∧ quiescent_Mmu (hMmu := hMmu)
    ∧ quiescent_MmuIdeal (hMmuIdeal := hMmuIdeal)
    ∧ quiescent_MmuRefIdeal (hMmuRefIdeal := hMmuRefIdeal)
    ∧ quiescent_Mmd (hMmd := hMmd)
    ∧ quiescent_MmdIdeal (hMmdIdeal := hMmdIdeal)
    ∧ quiescent_MmdRefIdeal (hMmdRefIdeal := hMmdRefIdeal)
    ∧ quiescent_Conv (hConv := hConv)
    ∧ quiescent_ConvIdeal (hConvIdeal := hConvIdeal)
    ∧ quiescent_ConvRefIdeal (hConvRefIdeal := hConvRefIdeal)
    ∧ quiescent_Norm (hNorm := hNorm)
    ∧ quiescent_NormIdeal (hNormIdeal := hNormIdeal)
    ∧ quiescent_NormRefIdeal (hNormRefIdeal := hNormRefIdeal)
    ∧ quiescent_PreNorm (hPreNorm := hPreNorm)
    ∧ quiescent_PreNormIdeal (hPreNormIdeal := hPreNormIdeal)
    ∧ quiescent_PreNormRefIdeal (hPreNormRefIdeal := hPreNormRefIdeal)
    ∧ quiescent_Resid (hResid := hResid)
    ∧ quiescent_ResidIdeal (hResidIdeal := hResidIdeal)
    ∧ quiescent_ResidRefIdeal (hResidRefIdeal := hResidRefIdeal)
    ∧ preserves_Sba_SbaIdeal
    ∧ algebraic_SbaIdeal_SbaRefIdeal_pre_sba_finite (hSbaIdeal := hSbaIdeal) (hSbaRefIdeal := hSbaRefIdeal) (hPre_sba_finite := hPre_sba_finite)
    ∧ preserves_Mma_MmaIdeal
    ∧ algebraic_MmaIdeal_MmaRefIdeal (hMmaIdeal := hMmaIdeal) (hMmaRefIdeal := hMmaRefIdeal)
    ∧ preserves_Mmb_MmbIdeal
    ∧ algebraic_MmbIdeal_MmbRefIdeal (hMmbIdeal := hMmbIdeal) (hMmbRefIdeal := hMmbRefIdeal)
    ∧ preserves_Mmo_MmoIdeal
    ∧ algebraic_MmoIdeal_MmoRefIdeal (hMmoIdeal := hMmoIdeal) (hMmoRefIdeal := hMmoRefIdeal)
    ∧ preserves_Mmu_MmuIdeal
    ∧ algebraic_MmuIdeal_MmuRefIdeal (hMmuIdeal := hMmuIdeal) (hMmuRefIdeal := hMmuRefIdeal)
    ∧ preserves_Mmd_MmdIdeal
    ∧ algebraic_MmdIdeal_MmdRefIdeal (hMmdIdeal := hMmdIdeal) (hMmdRefIdeal := hMmdRefIdeal)
    ∧ preserves_Conv_ConvIdeal
    ∧ algebraic_ConvIdeal_ConvRefIdeal (hConvIdeal := hConvIdeal) (hConvRefIdeal := hConvRefIdeal)
    ∧ preserves_Norm_NormIdeal
    ∧ algebraic_NormIdeal_NormRefIdeal (hNormIdeal := hNormIdeal) (hNormRefIdeal := hNormRefIdeal)
    ∧ preserves_PreNorm_PreNormIdeal
    ∧ algebraic_PreNormIdeal_PreNormRefIdeal (hPreNormIdeal := hPreNormIdeal) (hPreNormRefIdeal := hPreNormRefIdeal)
    ∧ preserves_Resid_ResidIdeal
    ∧ algebraic_ResidIdeal_ResidRefIdeal (hResidIdeal := hResidIdeal) (hResidRefIdeal := hResidRefIdeal)
-- ==== Pre_sba_finite.lean ====
abbrev S8192x6144 : Shape := ⟨2, ![8192, 6144]⟩
abbrev S8192x4096 : Shape := ⟨2, ![8192, 4096]⟩
abbrev S_ : Shape := ⟨0, ![]⟩

class Facts : Prop where
  slices_S8192x6144_S8192x4096_0_0 : S8192x6144.Slices ![0, 0] S8192x4096
  bitsLt_bf16_f32 : FTy.bits .bf16 < FTy.bits .f32
  bcast_S_S8192x4096 : S_.BroadcastsInDim S8192x4096 (![] : Fin 0 → Fin S8192x4096.rank)

variable [Facts]

def fn {F : FTy → Type} [FloatOps F] (main_arg0 : FVec F S8192x6144 .bf16) : IVec S8192x4096 1 :=
  let main_v0 : FVec F S8192x4096 .bf16 := (extractStridedSlice S8192x4096 ![0, 0] · slices_S8192x6144_S8192x4096_0_0) main_arg0
  let main_v1 : FVec F S8192x4096 .f32 := (extf .f32 · bitsLt_bf16_f32) main_v0
  let main_v2 : FVec F S8192x4096 .f32 := Host.absf main_v1
  let main_cst : FVec F S_ .f32 := constant S_ .f32 0x7F800000#32
  let main_v3 : FVec F S8192x4096 .f32 := broadcastInDim S8192x4096 ![] bcast_S_S8192x4096 main_cst
  let main_v4 : IVec S8192x4096 1 := cmpf .olt main_v2 main_v3
  main_v4
-- ==== Sba.lean ====
abbrev S8192x6144 : Shape := ⟨2, ![8192, 6144]⟩
abbrev S256x256 : Shape := ⟨2, ![256, 256]⟩
abbrev S8192x2048 : Shape := ⟨2, ![8192, 2048]⟩
abbrev S8192x128 : Shape := ⟨2, ![8192, 128]⟩
abbrev S128x128 : Shape := ⟨2, ![128, 128]⟩
abbrev S128x256 : Shape := ⟨2, ![128, 256]⟩
abbrev S1x128x128 : Shape := ⟨3, ![1, 128, 128]⟩
abbrev S1 : Shape := ⟨1, ![1]⟩
abbrev S1x1x1 : Shape := ⟨3, ![1, 1, 1]⟩

abbrev nBuf : Space → Nat
  | .hbm => 3
  | .vmem => 9
  | .smem => 0
  | _ => 0

abbrev bufTy : (tb : Table) → Fin (tcTables nBuf tb) → BufTy
  | .hbm, ⟨0, _⟩ => ⟨S8192x6144, .bf16⟩
  | .hbm, ⟨1, _⟩ => ⟨S256x256, .bf16⟩
  | .hbm, ⟨2, _⟩ => ⟨S8192x2048, .f32⟩
  | .local _ .vmem, ⟨0, _⟩ => ⟨S8192x128, .bf16⟩
  | .local _ .vmem, ⟨1, _⟩ => ⟨S8192x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x256, .bf16⟩
  | .local _ .vmem, ⟨7, _⟩ => ⟨S8192x128, .f32⟩
  | .local _ .vmem, ⟨8, _⟩ => ⟨S8192x128, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c64_i32 : BitVec 32 := 64#32
  let v3 : BitVec 32 := Scalar.addi c0_i32 c64_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c128_i32 : BitVec 32 := 128#32
  let v4 : BitVec 32 := Scalar.muli arg6 c128_i32
  v4
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c128_i32 : BitVec 32 := 128#32
  let v4 : BitVec 32 := Scalar.muli arg6 c128_i32
  let v5 : BitVec 32 := v4
  let v6 : Index := Scalar.indexCast v5
  let c0 : Index := 0#32
  ![v6.toNat, 0]
def k0_mult2 (arg7 : BitVec 32) : BitVec 32 :=
  let c128_i32_13 : BitVec 32 := 128#32
  let v32 : BitVec 32 := Scalar.muli arg7 c128_i32_13
  v32

def k0_off2 (arg7 : BitVec 32) : Fin 2 → Nat :=
  let c128_i32_13 : BitVec 32 := 128#32
  let v32 : BitVec 32 := Scalar.muli arg7 c128_i32_13
  let v33 : BitVec 32 := v32
  let v34 : Index := Scalar.indexCast v33
  let c0_14 : Index := 0#32
  ![v34.toNat, 0]

def k0_chk1 (arg7 : BitVec 32) : Prop :=
  (128 ∣ (k0_mult2 arg7).toNat) ∧
  (∀ a, (k0_off2 arg7) a + S128x128.size a ≤ S8192x128.size a)
theorem k0_mult2_dvd : ∀ (arg7 : BitVec 32) (k0_hw1 : k0_chk1 arg7), 128 ∣ (k0_mult2 arg7).toNat := fun arg7 k0_hw1 => k0_hw1.1
theorem k0_off2_inb : ∀ (arg7 : BitVec 32) (k0_hw1 : k0_chk1 arg7), ∀ a, (k0_off2 arg7) a + S128x128.size a ≤ S8192x128.size a := fun arg7 k0_hw1 => k0_hw1.2

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SbaIdeal.lean ====
variable {F : FTy → Type} [FloatOps F] [Named F]
def κ : String → Option EReal := fun
  | "scale" => some (((Real.sqrt 128)⁻¹ : ℝ) : EReal)
  | "skip" => some ⊥
  | _ => none
-- ==== SbaRefIdeal.lean ====
abbrev S8192x6144 : Shape := ⟨2, ![8192, 6144]⟩
abbrev S8192x2048 : Shape := ⟨2, ![8192, 2048]⟩
abbrev S8192x16x128 : Shape := ⟨3, ![8192, 16, 128]⟩
abbrev S16x8192x128 : Shape := ⟨3, ![16, 8192, 128]⟩
abbrev S16x8192x8192 : Shape := ⟨3, ![16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩

abbrev nBuf : Space → Nat
  | .hbm => 75
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S8192x6144, .f32⟩
  | .hbm, ⟨2, _⟩ => ⟨S8192x2048, .f32⟩
  | .hbm, ⟨3, _⟩ => ⟨S8192x16x128, .f32⟩
  | .hbm, ⟨4, _⟩ => ⟨S16x8192x128, .f32⟩
  | .hbm, ⟨5, _⟩ => ⟨S8192x2048, .f32⟩
  | .hbm, ⟨6, _⟩ => ⟨S8192x16x128, .f32⟩
  | .hbm, ⟨7, _⟩ => ⟨S16x8192x128, .f32⟩
  | .hbm, ⟨8, _⟩ => ⟨S8192x2048, .f32⟩
  | .hbm, ⟨9, _⟩ => ⟨S8192x16x128, .f32⟩
  | .hbm, ⟨10, _⟩ => ⟨S16x8192x128, .f32⟩
  | .hbm, ⟨11, _⟩ => ⟨S16x8192x8192, .f32⟩
  | .hbm, ⟨12, _⟩ => ⟨S_, .f32⟩
  | .hbm, ⟨13, _⟩ => ⟨S_, .f32⟩
  | .hbm, ⟨14, _⟩ => ⟨S16x8192x8192, .f32⟩
  | .hbm, ⟨15, _⟩ => ⟨S16x8192x8192, .f32⟩
  | .hbm, ⟨16, _⟩ => ⟨S8192, .i32⟩
  | .hbm, ⟨17, _⟩ => ⟨S1x8192, .i32⟩
  | .hbm, ⟨18, _⟩ => ⟨S8192, .i32⟩
  | .hbm, ⟨19, _⟩ => ⟨S8192x1, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S16x8192x8192, .f32⟩
  | .hbm, ⟨24, _⟩ => ⟨S16x8192x8192, .f32⟩
  | .hbm, ⟨25, _⟩ => ⟨S_, .f32⟩
  | .hbm, ⟨26, _⟩ => ⟨S16x8192x8192, .f32⟩
  | .hbm, ⟨27, _⟩ => ⟨S16x8192x8192, .f32⟩
  | .hbm, ⟨28, _⟩ => ⟨S16x8192x8192, .f32⟩
  | .hbm, ⟨29, _⟩ => ⟨S16x8192x8192, .f32⟩
  | .hbm, ⟨30, _⟩ => ⟨S16x8192x8192, .i1⟩
  | .hbm, ⟨31, _⟩ => ⟨S16x8192x8192, .f32⟩
  | .hbm, ⟨32, _⟩ => ⟨S16x8192x8192, .f32⟩
  | .hbm, ⟨33, _⟩ => ⟨S16x8192x8192, .f32⟩
  | .hbm, ⟨34, _⟩ => ⟨S16x8192x8192, .f32⟩
  | .hbm, ⟨35, _⟩ => ⟨S16x8192x8192, .f32⟩
  | .hbm, ⟨36, _⟩ => ⟨S16x8192x8192, .f32⟩
  | .hbm, ⟨37, _⟩ => ⟨S16x8192x8192, .f32⟩
  | .hbm, ⟨38, _⟩ => ⟨S16x8192x8192, .f32⟩
  | .hbm, ⟨39, _⟩ => ⟨S16x8192x8192, .f32⟩
  | .hbm, ⟨40, _⟩ => ⟨S_, .f32⟩
  | .hbm, ⟨41, _⟩ => ⟨S_, .f32⟩
  | .hbm, ⟨42, _⟩ => ⟨S16x8192x8192, .i1⟩
  | .hbm, ⟨43, _⟩ => ⟨S16x8192x8192, .f32⟩
  | .hbm, ⟨44, _⟩ => ⟨S16x8192x8192, .f32⟩
  | .hbm, ⟨45, _⟩ => ⟨S_, .f32⟩
  | .hbm, ⟨46, _⟩ => ⟨S_, .f32⟩
  | .hbm, ⟨47, _⟩ => ⟨S16x8192x8192, .f32⟩
  | .hbm, ⟨48, _⟩ => ⟨S16x8192x8192, .f32⟩
  | .hbm, ⟨49, _⟩ => ⟨S16x8192x8192, .f32⟩
  | .hbm, ⟨50, _⟩ => ⟨S_, .f32⟩
  | .hbm, ⟨51, _⟩ => ⟨S16x8192x8192, .f32⟩
  | .hbm, ⟨52, _⟩ => ⟨S16x8192x8192, .f32⟩
  | .hbm, ⟨53, _⟩ => ⟨S16x8192x8192, .f32⟩
  | .hbm, ⟨54, _⟩ => ⟨S16x8192x8192, .f32⟩
  | .hbm, ⟨55, _⟩ => ⟨S16x8192x8192, .i1⟩
  | .hbm, ⟨56, _⟩ => ⟨S16x8192x8192, .f32⟩
  | .hbm, ⟨57, _⟩ => ⟨S16x8192x8192, .f32⟩
  | .hbm, ⟨58, _⟩ => ⟨S16x8192x8192, .f32⟩
  | .hbm, ⟨59, _⟩ => ⟨S16x8192x8192, .f32⟩
  | .hbm, ⟨60, _⟩ => ⟨S16x8192x8192, .f32⟩
  | .hbm, ⟨61, _⟩ => ⟨S16x8192x8192, .f32⟩
  | .hbm, ⟨62, _⟩ => ⟨S16x8192x8192, .f32⟩
  | .hbm, ⟨63, _⟩ => ⟨S16x8192x8192, .f32⟩
  | .hbm, ⟨64, _⟩ => ⟨S16x8192x8192, .f32⟩
  | .hbm, ⟨65, _⟩ => ⟨S16x8192x8192, .f32⟩
  | .hbm, ⟨66, _⟩ => ⟨S_, .f32⟩
  | .hbm, ⟨67, _⟩ => ⟨S_, .f32⟩
  | .hbm, ⟨68, _⟩ => ⟨S16x8192x8192, .i1⟩
  | .hbm, ⟨69, _⟩ => ⟨S16x8192x8192, .f32⟩
  | .hbm, ⟨70, _⟩ => ⟨S16x8192x8192, .f32⟩
  | .hbm, ⟨71, _⟩ => ⟨S16x8192x8192, .f32⟩
  | .hbm, ⟨72, _⟩ => ⟨S16x8192x128, .f32⟩
  | .hbm, ⟨73, _⟩ => ⟨S8192x16x128, .f32⟩
  | .hbm, ⟨74, _⟩ => ⟨S8192x2048, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v22 : Ref sig .tc := ⟨.hbm, 39, rfl⟩
abbrev main_cst_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v23 : Ref sig .tc := ⟨.hbm, 44, rfl⟩
abbrev main_call2_cst : Ref sig .tc := ⟨.hbm, 45, rfl⟩
abbrev main_call2_v0 : Ref sig .tc := ⟨.hbm, 46, rfl⟩
abbrev main_v24 : Ref sig .tc := ⟨.hbm, 47, rfl⟩
abbrev main_v25 : Ref sig .tc := ⟨.hbm, 48, rfl⟩
abbrev main_call3_v0 : Ref sig .tc := ⟨.hbm, 49, rfl⟩
abbrev main_call3_call0_cst : Ref sig .tc := ⟨.hbm, 50, rfl⟩
abbrev main_call3_call0_v0 : Ref sig .tc := ⟨.hbm, 51, rfl⟩
abbrev main_call3_call0_v1 : Ref sig .tc := ⟨.hbm, 52, rfl⟩
abbrev main_call3_call0_v2 : Ref sig .tc := ⟨.hbm, 53, rfl⟩
abbrev main_call3_call0_v3 : Ref sig .tc := ⟨.hbm, 54, rfl⟩
abbrev main_call3_call0_v4 : Ref sig .tc := ⟨.hbm, 55, rfl⟩
abbrev main_call3_call0_v5 : Ref sig .tc := ⟨.hbm, 56, rfl⟩
abbrev main_call3_call0_v6 : Ref sig .tc := ⟨.hbm, 57, rfl⟩
abbrev main_call3_call0_v7 : Ref sig .tc := ⟨.hbm, 58, rfl⟩
abbrev main_call3_call0_v8 : Ref sig .tc := ⟨.hbm, 59, rfl⟩
abbrev main_call3_call0_v9 : Ref sig .tc := ⟨.hbm, 60, rfl⟩
abbrev main_call3_call0_v10 : Ref sig .tc := ⟨.hbm, 61, rfl⟩
abbrev main_call3_call0_v11 : Ref sig .tc := ⟨.hbm, 62, rfl⟩
abbrev main_call3_v1 : Ref sig .tc := ⟨.hbm, 63, rfl⟩
abbrev main_v26 : Ref sig .tc := ⟨.hbm, 64, rfl⟩
abbrev main_v27 : Ref sig .tc := ⟨.hbm, 65, rfl⟩
abbrev main_cst_1 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩

abbrev nD : Nat := 1
abbrev τ : Topo := Topo.v7x

variable {F : FTy → Type} [FloatOps F]
-- ==== Mma.lean ====
abbrev S8192x4096 : Shape := ⟨2, ![8192, 4096]⟩
abbrev S4x4096x14336 : Shape := ⟨3, ![4, 4096, 14336]⟩
abbrev S1x4096x14336 : Shape := ⟨3, ![1, 4096, 14336]⟩
abbrev S4096x14336 : Shape := ⟨2, ![4096, 14336]⟩
abbrev S8192x6144 : Shape := ⟨2, ![8192, 6144]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4x4096x14336, .f32⟩
  | .hbm, ⟨2, _⟩ => ⟨S1x4096x14336, .f32⟩
  | .hbm, ⟨3, _⟩ => ⟨S4096x14336, .f32⟩
  | .hbm, ⟨4, _⟩ => ⟨S4096x14336, .bf16⟩
  | .hbm, ⟨5, _⟩ => ⟨S8192x6144, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmaRefIdeal.lean ====
abbrev S8192x4096 : Shape := ⟨2, ![8192, 4096]⟩
abbrev S4x4096x14336 : Shape := ⟨3, ![4, 4096, 14336]⟩
abbrev S1x4096x14336 : Shape := ⟨3, ![1, 4096, 14336]⟩
abbrev S4096x14336 : Shape := ⟨2, ![4096, 14336]⟩
abbrev S8192x14336 : Shape := ⟨2, ![8192, 14336]⟩
abbrev S8192x6144 : Shape := ⟨2, ![8192, 6144]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x14336, .f32⟩
  | .hbm, ⟨2, _⟩ => ⟨S8192x4096, .f32⟩
  | .hbm, ⟨3, _⟩ => ⟨S1x4096x14336, .f32⟩
  | .hbm, ⟨4, _⟩ => ⟨S4096x14336, .f32⟩
  | .hbm, ⟨5, _⟩ => ⟨S8192x14336, .f32⟩
  | .hbm, ⟨6, _⟩ => ⟨S8192x6144, .f32⟩
  | .hbm, ⟨7, _⟩ => ⟨S8192x6144, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Mmb.lean ====
abbrev S8192x4096 : Shape := ⟨2, ![8192, 4096]⟩
abbrev S4x4096x14336 : Shape := ⟨3, ![4, 4096, 14336]⟩
abbrev S1x4096x14336 : Shape := ⟨3, ![1, 4096, 14336]⟩
abbrev S4096x14336 : Shape := ⟨2, ![4096, 14336]⟩
abbrev S8192x8192 : Shape := ⟨2, ![8192, 8192]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4x4096x14336, .f32⟩
  | .hbm, ⟨2, _⟩ => ⟨S1x4096x14336, .f32⟩
  | .hbm, ⟨3, _⟩ => ⟨S4096x14336, .f32⟩
  | .hbm, ⟨4, _⟩ => ⟨S4096x14336, .bf16⟩
  | .hbm, ⟨5, _⟩ => ⟨S8192x8192, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg0 c6_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmbRefIdeal.lean ====
abbrev S8192x4096 : Shape := ⟨2, ![8192, 4096]⟩
abbrev S4x4096x14336 : Shape := ⟨3, ![4, 4096, 14336]⟩
abbrev S1x4096x14336 : Shape := ⟨3, ![1, 4096, 14336]⟩
abbrev S4096x14336 : Shape := ⟨2, ![4096, 14336]⟩
abbrev S8192x14336 : Shape := ⟨2, ![8192, 14336]⟩
abbrev S8192x8192 : Shape := ⟨2, ![8192, 8192]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x14336, .f32⟩
  | .hbm, ⟨2, _⟩ => ⟨S8192x4096, .f32⟩
  | .hbm, ⟨3, _⟩ => ⟨S1x4096x14336, .f32⟩
  | .hbm, ⟨4, _⟩ => ⟨S4096x14336, .f32⟩
  | .hbm, ⟨5, _⟩ => ⟨S8192x14336, .f32⟩
  | .hbm, ⟨6, _⟩ => ⟨S8192x8192, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Mmo.lean ====
abbrev S8192x2048 : Shape := ⟨2, ![8192, 2048]⟩
abbrev S4x4096x4096 : Shape := ⟨3, ![4, 4096, 4096]⟩
abbrev S1x4096x4096 : Shape := ⟨3, ![1, 4096, 4096]⟩
abbrev S4096x4096 : Shape := ⟨2, ![4096, 4096]⟩
abbrev S8192x4096 : Shape := ⟨2, ![8192, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4x4096x4096, .f32⟩
  | .hbm, ⟨3, _⟩ => ⟨S1x4096x4096, .f32⟩
  | .hbm, ⟨4, _⟩ => ⟨S4096x4096, .f32⟩
  | .hbm, ⟨5, _⟩ => ⟨S4096x4096, .bf16⟩
  | .hbm, ⟨6, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .f32⟩
  | .local _ .vmem, ⟨9, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MmoRefIdeal.lean ====
abbrev S8192x2048 : Shape := ⟨2, ![8192, 2048]⟩
abbrev S4x4096x4096 : Shape := ⟨3, ![4, 4096, 4096]⟩
abbrev S8192x4096 : Shape := ⟨2, ![8192, 4096]⟩
abbrev S1x4096x4096 : Shape := ⟨3, ![1, 4096, 4096]⟩
abbrev S4096x4096 : Shape := ⟨2, ![4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4x4096x4096, .f32⟩
  | .hbm, ⟨3, _⟩ => ⟨S8192x2048, .f32⟩
  | .hbm, ⟨4, _⟩ => ⟨S8192x2048, .f32⟩
  | .hbm, ⟨5, _⟩ => ⟨S8192x4096, .f32⟩
  | .hbm, ⟨6, _⟩ => ⟨S1x4096x4096, .f32⟩
  | .hbm, ⟨7, _⟩ => ⟨S4096x4096, .f32⟩
  | .hbm, ⟨8, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Mmu.lean ====
abbrev S8192x4096 : Shape := ⟨2, ![8192, 4096]⟩
abbrev S4x4096x22016 : Shape := ⟨3, ![4, 4096, 22016]⟩
abbrev S1x4096x22016 : Shape := ⟨3, ![1, 4096, 22016]⟩
abbrev S4096x22016 : Shape := ⟨2, ![4096, 22016]⟩
abbrev S8192x22016 : Shape := ⟨2, ![8192, 22016]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4x4096x22016, .f32⟩
  | .hbm, ⟨2, _⟩ => ⟨S1x4096x22016, .f32⟩
  | .hbm, ⟨3, _⟩ => ⟨S4096x22016, .f32⟩
  | .hbm, ⟨4, _⟩ => ⟨S4096x22016, .bf16⟩
  | .hbm, ⟨5, _⟩ => ⟨S8192x22016, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![43, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmuRefIdeal.lean ====
abbrev S8192x4096 : Shape := ⟨2, ![8192, 4096]⟩
abbrev S4x4096x22016 : Shape := ⟨3, ![4, 4096, 22016]⟩
abbrev S1x4096x22016 : Shape := ⟨3, ![1, 4096, 22016]⟩
abbrev S4096x22016 : Shape := ⟨2, ![4096, 22016]⟩
abbrev S8192x22016 : Shape := ⟨2, ![8192, 22016]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x22016, .f32⟩
  | .hbm, ⟨2, _⟩ => ⟨S8192x4096, .f32⟩
  | .hbm, ⟨3, _⟩ => ⟨S1x4096x22016, .f32⟩
  | .hbm, ⟨4, _⟩ => ⟨S4096x22016, .f32⟩
  | .hbm, ⟨5, _⟩ => ⟨S8192x22016, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Mmd.lean ====
abbrev S8192x11008 : Shape := ⟨2, ![8192, 11008]⟩
abbrev S4x11008x4096 : Shape := ⟨3, ![4, 11008, 4096]⟩
abbrev S1x11008x4096 : Shape := ⟨3, ![1, 11008, 4096]⟩
abbrev S11008x4096 : Shape := ⟨2, ![11008, 4096]⟩
abbrev S8192x4096 : Shape := ⟨2, ![8192, 4096]⟩
abbrev S1024x5504 : Shape := ⟨2, ![1024, 5504]⟩
abbrev S5504x512 : Shape := ⟨2, ![5504, 512]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S8192x11008, .bf16⟩
  | .hbm, ⟨1, _⟩ => ⟨S4x11008x4096, .f32⟩
  | .hbm, ⟨2, _⟩ => ⟨S1x11008x4096, .f32⟩
  | .hbm, ⟨3, _⟩ => ⟨S11008x4096, .f32⟩
  | .hbm, ⟨4, _⟩ => ⟨S11008x4096, .bf16⟩
  | .hbm, ⟨5, _⟩ => ⟨S8192x4096, .f32⟩
  | .local _ .vmem, ⟨0, _⟩ => ⟨S1024x5504, .bf16⟩
  | .local _ .vmem, ⟨1, _⟩ => ⟨S1024x5504, .bf16⟩
  | .local _ .vmem, ⟨2, _⟩ => ⟨S5504x512, .bf16⟩
  | .local _ .vmem, ⟨3, _⟩ => ⟨S5504x512, .bf16⟩
  | .local _ .vmem, ⟨4, _⟩ => ⟨S1024x512, .f32⟩
  | .local _ .vmem, ⟨5, _⟩ => ⟨S1024x512, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S5504x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmdRefIdeal.lean ====
abbrev S8192x11008 : Shape := ⟨2, ![8192, 11008]⟩
abbrev S4x11008x4096 : Shape := ⟨3, ![4, 11008, 4096]⟩
abbrev S1x11008x4096 : Shape := ⟨3, ![1, 11008, 4096]⟩
abbrev S11008x4096 : Shape := ⟨2, ![11008, 4096]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S4x11008x4096, .f32⟩
  | .hbm, ⟨2, _⟩ => ⟨S8192x11008, .f32⟩
  | .hbm, ⟨3, _⟩ => ⟨S1x11008x4096, .f32⟩
  | .hbm, ⟨4, _⟩ => ⟨S11008x4096, .f32⟩
  | .hbm, ⟨5, _⟩ => ⟨S8192x4096, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Conv.lean ====
abbrev S8192x22016 : Shape := ⟨2, ![8192, 22016]⟩
abbrev S4x3x22016 : Shape := ⟨3, ![4, 3, 22016]⟩
abbrev S4x22016 : Shape := ⟨2, ![4, 22016]⟩
abbrev S1x3x22016 : Shape := ⟨3, ![1, 3, 22016]⟩
abbrev S3x22016 : Shape := ⟨2, ![3, 22016]⟩
abbrev S1x22016 : Shape := ⟨2, ![1, 22016]⟩
abbrev S22016 : Shape := ⟨1, ![22016]⟩
abbrev S8192x11008 : Shape := ⟨2, ![8192, 11008]⟩
abbrev S8192x128 : Shape := ⟨2, ![8192, 128]⟩
abbrev S3x128 : Shape := ⟨2, ![3, 128]⟩
abbrev S1x128 : Shape := ⟨2, ![1, 128]⟩
abbrev S256x128 : Shape := ⟨2, ![256, 128]⟩
abbrev S8x128 : Shape := ⟨2, ![8, 128]⟩

abbrev nBuf : Space → Nat
  | .hbm => 9
  | .vmem => 14
  | .smem => 0
  | _ => 0

abbrev bufTy : (tb : Table) → Fin (tcTables nBuf tb) → BufTy
  | .hbm, ⟨0, _⟩ => ⟨S8192x22016, .f32⟩
  | .hbm, ⟨1, _⟩ => ⟨S4x3x22016, .f32⟩
  | .hbm, ⟨2, _⟩ => ⟨S4x22016, .f32⟩
  | .hbm, ⟨3, _⟩ => ⟨S1x3x22016, .f32⟩
  | .hbm, ⟨4, _⟩ => ⟨S3x22016, .f32⟩
  | .hbm, ⟨5, _⟩ => ⟨S1x22016, .f32⟩
  | .hbm, ⟨6, _⟩ => ⟨S22016, .f32⟩
  | .hbm, ⟨7, _⟩ => ⟨S1x22016, .f32⟩
  | .hbm, ⟨8, _⟩ => ⟨S8192x11008, .bf16⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S3x128, .f32⟩
  | .local _ .vmem, ⟨5, _⟩ => ⟨S3x128, .f32⟩
  | .local _ .vmem, ⟨6, _⟩ => ⟨S3x128, .f32⟩
  | .local _ .vmem, ⟨7, _⟩ => ⟨S3x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S8192x128, .bf16⟩
  | .local _ .vmem, ⟨13, _⟩ => ⟨S8192x128, .bf16⟩
  | _, _ => ⟨S8192x22016, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![86], ![false]⟩

@[reducible] def k0_t1_loop : Scf.Loop 32 :=
  let c0_i32 : BitVec 32 := 0#32
  let c32_i32 : BitVec 32 := 32#32
  let v1 : BitVec 32 := Scalar.addi c0_i32 c32_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v2 : BitVec 32 := Scalar.muli arg8 c256_i32
  v2
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c256_i32 : BitVec 32 := 256#32
  let v2 : BitVec 32 := Scalar.muli arg8 c256_i32
  let v3 : BitVec 32 := v2
  let v4 : Index := Scalar.indexCast v3
  let c0 : Index := 0#32
  ![v4.toNat, 0]
def k0_mult2 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v2 : BitVec 32 := Scalar.muli arg8 c256_i32
  let v3 : BitVec 32 := v2
  let c8_i32 : BitVec 32 := 8#32
  let v6 : BitVec 32 := Scalar.subi v3 c8_i32
  let c0_i32_1 : BitVec 32 := 0#32
  let v7 : BitVec 32 := Scalar.maxsi v6 c0_i32_1
  v7
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let c256_i32 : BitVec 32 := 256#32
  let v2 : BitVec 32 := Scalar.muli arg8 c256_i32
  let v3 : BitVec 32 := v2
  let c8_i32 : BitVec 32 := 8#32
  let v6 : BitVec 32 := Scalar.subi v3 c8_i32
  let c0_i32_1 : BitVec 32 := 0#32
  let v7 : BitVec 32 := Scalar.maxsi v6 c0_i32_1
  let v8 : BitVec 32 := v7
  let v10 : Index := Scalar.indexCast v8
  let c0_3 : Index := 0#32
  ![v10.toNat, 0]
def k0_mult3 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v2 : BitVec 32 := Scalar.muli arg8 c256_i32
  let v3 : BitVec 32 := v2
  let c8_i32_13 : BitVec 32 := 8#32
  let v52 : BitVec 32 := Scalar.subi v3 c8_i32_13
  let c0_i32_14 : BitVec 32 := 0#32
  let v53 : BitVec 32 := Scalar.maxsi v52 c0_i32_14
  v53
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c86_i32 : BitVec 32 := 86#32
  let v0 : BitVec 32 := Scalar.addi arg0 c86_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c86_i32 : BitVec 32 := 86#32
  let v0 : BitVec 32 := Scalar.addi arg0 c86_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c86_i32 : BitVec 32 := 86#32
  let v0 : BitVec 32 := Scalar.addi arg0 c86_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvRefIdeal.lean ====
abbrev S8192x22016 : Shape := ⟨2, ![8192, 22016]⟩
abbrev S4x3x22016 : Shape := ⟨3, ![4, 3, 22016]⟩
abbrev S4x22016 : Shape := ⟨2, ![4, 22016]⟩
abbrev S1x3x22016 : Shape := ⟨3, ![1, 3, 22016]⟩
abbrev S3x22016 : Shape := ⟨2, ![3, 22016]⟩
abbrev S1x22016 : Shape := ⟨2, ![1, 22016]⟩
abbrev S22016 : Shape := ⟨1, ![22016]⟩
abbrev S_ : Shape := ⟨0, ![]⟩
abbrev S8194x22016 : Shape := ⟨2, ![8194, 22016]⟩
abbrev S8192x11008 : Shape := ⟨2, ![8192, 11008]⟩

abbrev nBuf : Space → Nat
  | .hbm => 46
  | .vmem => 0
  | .smem => 0
  | _ => 0

abbrev bufTy : (tb : Table) → Fin (tcTables nBuf tb) → BufTy
  | .hbm, ⟨0, _⟩ => ⟨S8192x22016, .f32⟩
  | .hbm, ⟨1, _⟩ => ⟨S4x3x22016, .f32⟩
  | .hbm, ⟨2, _⟩ => ⟨S4x22016, .f32⟩
  | .hbm, ⟨3, _⟩ => ⟨S1x3x22016, .f32⟩
  | .hbm, ⟨4, _⟩ => ⟨S3x22016, .f32⟩
  | .hbm, ⟨5, _⟩ => ⟨S1x22016, .f32⟩
  | .hbm, ⟨6, _⟩ => ⟨S22016, .f32⟩
  | .hbm, ⟨7, _⟩ => ⟨S_, .i32⟩
  | .hbm, ⟨8, _⟩ => ⟨S_, .f32⟩
  | .hbm, ⟨9, _⟩ => ⟨S8194x22016, .f32⟩
  | .hbm, ⟨10, _⟩ => ⟨S1x22016, .f32⟩
  | .hbm, ⟨11, _⟩ => ⟨S22016, .f32⟩
  | .hbm, ⟨12, _⟩ => ⟨S8192x22016, .f32⟩
  | .hbm, ⟨13, _⟩ => ⟨S1x22016, .f32⟩
  | .hbm, ⟨14, _⟩ => ⟨S8192x22016, .f32⟩
  | .hbm, ⟨15, _⟩ => ⟨S8192x22016, .f32⟩
  | .hbm, ⟨16, _⟩ => ⟨S1x22016, .f32⟩
  | .hbm, ⟨17, _⟩ => ⟨S8192x22016, .f32⟩
  | .hbm, ⟨18, _⟩ => ⟨S8192x22016, .f32⟩
  | .hbm, ⟨19, _⟩ => ⟨S1x22016, .f32⟩
  | .hbm, ⟨20, _⟩ => ⟨S22016, .f32⟩
  | .hbm, ⟨21, _⟩ => ⟨S8192x22016, .f32⟩
  | .hbm, ⟨22, _⟩ => ⟨S1x22016, .f32⟩
  | .hbm, ⟨23, _⟩ => ⟨S8192x22016, .f32⟩
  | .hbm, ⟨24, _⟩ => ⟨S8192x22016, .f32⟩
  | .hbm, ⟨25, _⟩ => ⟨S8192x22016, .f32⟩
  | .hbm, ⟨26, _⟩ => ⟨S1x22016, .f32⟩
  | .hbm, ⟨27, _⟩ => ⟨S22016, .f32⟩
  | .hbm, ⟨28, _⟩ => ⟨S8192x22016, .f32⟩
  | .hbm, ⟨29, _⟩ => ⟨S1x22016, .f32⟩
  | .hbm, ⟨30, _⟩ => ⟨S8192x22016, .f32⟩
  | .hbm, ⟨31, _⟩ => ⟨S8192x22016, .f32⟩
  | .hbm, ⟨32, _⟩ => ⟨S8192x22016, .f32⟩
  | .hbm, ⟨33, _⟩ => ⟨S8192x11008, .f32⟩
  | .hbm, ⟨34, _⟩ => ⟨S8192x11008, .f32⟩
  | .hbm, ⟨35, _⟩ => ⟨S8192x11008, .f32⟩
  | .hbm, ⟨36, _⟩ => ⟨S8192x11008, .f32⟩
  | .hbm, ⟨37, _⟩ => ⟨S_, .f32⟩
  | .hbm, ⟨38, _⟩ => ⟨S8192x11008, .f32⟩
  | .hbm, ⟨39, _⟩ => ⟨S8192x11008, .f32⟩
  | .hbm, ⟨40, _⟩ => ⟨S_, .f32⟩
  | .hbm, ⟨41, _⟩ => ⟨S8192x11008, .f32⟩
  | .hbm, ⟨42, _⟩ => ⟨S8192x11008, .f32⟩
  | .hbm, ⟨43, _⟩ => ⟨S8192x11008, .f32⟩
  | .hbm, ⟨44, _⟩ => ⟨S8192x11008, .f32⟩
  | .hbm, ⟨45, _⟩ => ⟨S8192x11008, .bf16⟩
  | _, _ => ⟨S8192x22016, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Norm.lean ====
abbrev S8192x2048 : Shape := ⟨2, ![8192, 2048]⟩
abbrev S4x2048 : Shape := ⟨2, ![4, 2048]⟩
abbrev S1x2048 : Shape := ⟨2, ![1, 2048]⟩
abbrev S2048 : Shape := ⟨1, ![2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S1x2048, .f32⟩
  | .hbm, ⟨3, _⟩ => ⟨S2048, .f32⟩
  | .hbm, ⟨4, _⟩ => ⟨S1x2048, .f32⟩
  | .hbm, ⟨5, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8192x2048 : Shape := ⟨2, ![8192, 2048]⟩
abbrev S4x2048 : Shape := ⟨2, ![4, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S1x2048, .f32⟩
  | .hbm, ⟨3, _⟩ => ⟨S2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== PreNorm.lean ====
abbrev S1x8192x4096 : Shape := ⟨3, ![1, 8192, 4096]⟩
abbrev S4x4096 : Shape := ⟨2, ![4, 4096]⟩
abbrev S8192x4096 : Shape := ⟨2, ![8192, 4096]⟩
abbrev S1x4096 : Shape := ⟨2, ![1, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩

abbrev nBuf : Space → Nat
  | .hbm => 7
  | .vmem => 5
  | .smem => 0
  | _ => 0

abbrev bufTy : (tb : Table) → Fin (tcTables nBuf tb) → BufTy
  | .hbm, ⟨0, _⟩ => ⟨S1x8192x4096, .f32⟩
  | .hbm, ⟨1, _⟩ => ⟨S4x4096, .f32⟩
  | .hbm, ⟨2, _⟩ => ⟨S8192x4096, .f32⟩
  | .hbm, ⟨3, _⟩ => ⟨S1x4096, .f32⟩
  | .hbm, ⟨4, _⟩ => ⟨S4096, .f32⟩
  | .hbm, ⟨5, _⟩ => ⟨S1x4096, .f32⟩
  | .hbm, ⟨6, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PreNormRefIdeal.lean ====
abbrev S1x8192x4096 : Shape := ⟨3, ![1, 8192, 4096]⟩
abbrev S4x4096 : Shape := ⟨2, ![4, 4096]⟩
abbrev S8192x4096 : Shape := ⟨2, ![8192, 4096]⟩
abbrev S1x4096 : Shape := ⟨2, ![1, 4096]⟩
abbrev S4096 : Shape := ⟨1, ![4096]⟩
abbrev S_ : Shape := ⟨0, ![]⟩
abbrev S8192 : Shape := ⟨1, ![8192]⟩
abbrev S8192x1 : Shape := ⟨2, ![8192, 1]⟩

abbrev nBuf : Space → Nat
  | .hbm => 22
  | .vmem => 0
  | .smem => 0
  | _ => 0

abbrev bufTy : (tb : Table) → Fin (tcTables nBuf tb) → BufTy
  | .hbm, ⟨0, _⟩ => ⟨S1x8192x4096, .f32⟩
  | .hbm, ⟨1, _⟩ => ⟨S4x4096, .f32⟩
  | .hbm, ⟨2, _⟩ => ⟨S8192x4096, .f32⟩
  | .hbm, ⟨3, _⟩ => ⟨S1x4096, .f32⟩
  | .hbm, ⟨4, _⟩ => ⟨S4096, .f32⟩
  | .hbm, ⟨5, _⟩ => ⟨S8192x4096, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x4096, .f32⟩
  | .hbm, ⟨17, _⟩ => ⟨S8192x4096, .f32⟩
  | .hbm, ⟨18, _⟩ => ⟨S1x4096, .f32⟩
  | .hbm, ⟨19, _⟩ => ⟨S8192x4096, .f32⟩
  | .hbm, ⟨20, _⟩ => ⟨S8192x4096, .f32⟩
  | .hbm, ⟨21, _⟩ => ⟨S8192x4096, .bf16⟩
  | _, _ => ⟨S1x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Resid.lean ====
abbrev S8192x4096 : Shape := ⟨2, ![8192, 4096]⟩
abbrev S4x4096 : Shape := ⟨2, ![4, 4096]⟩
abbrev S1x4096 : Shape := ⟨2, ![1, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩

abbrev nBuf : Space → Nat
  | .hbm => 12
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4x4096, .f32⟩
  | .hbm, ⟨3, _⟩ => ⟨S4x4096, .f32⟩
  | .hbm, ⟨4, _⟩ => ⟨S1x4096, .f32⟩
  | .hbm, ⟨5, _⟩ => ⟨S4096, .f32⟩
  | .hbm, ⟨6, _⟩ => ⟨S1x4096, .f32⟩
  | .hbm, ⟨7, _⟩ => ⟨S4096, .f32⟩
  | .hbm, ⟨8, _⟩ => ⟨S1x4096, .f32⟩
  | .hbm, ⟨9, _⟩ => ⟨S1x4096, .f32⟩
  | .hbm, ⟨10, _⟩ => ⟨S8192x4096, .f32⟩
  | .hbm, ⟨11, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ResidRefIdeal.lean ====
abbrev S8192x4096 : Shape := ⟨2, ![8192, 4096]⟩
abbrev S4x4096 : Shape := ⟨2, ![4, 4096]⟩
abbrev S1x4096 : Shape := ⟨2, ![1, 4096]⟩
abbrev S4096 : Shape := ⟨1, ![4096]⟩
abbrev S_ : Shape := ⟨0, ![]⟩
abbrev S8192 : Shape := ⟨1, ![8192]⟩
abbrev S8192x1 : Shape := ⟨2, ![8192, 1]⟩

abbrev nBuf : Space → Nat
  | .hbm => 42
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4x4096, .f32⟩
  | .hbm, ⟨3, _⟩ => ⟨S4x4096, .f32⟩
  | .hbm, ⟨4, _⟩ => ⟨S1x4096, .f32⟩
  | .hbm, ⟨5, _⟩ => ⟨S4096, .f32⟩
  | .hbm, ⟨6, _⟩ => ⟨S8192x4096, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x4096, .f32⟩
  | .hbm, ⟨18, _⟩ => ⟨S8192x4096, .f32⟩
  | .hbm, ⟨19, _⟩ => ⟨S1x4096, .f32⟩
  | .hbm, ⟨20, _⟩ => ⟨S8192x4096, .f32⟩
  | .hbm, ⟨21, _⟩ => ⟨S8192x4096, .f32⟩
  | .hbm, ⟨22, _⟩ => ⟨S8192x4096, .f32⟩
  | .hbm, ⟨23, _⟩ => ⟨S1x4096, .f32⟩
  | .hbm, ⟨24, _⟩ => ⟨S4096, .f32⟩
  | .hbm, ⟨25, _⟩ => ⟨S8192x4096, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x4096, .f32⟩
  | .hbm, ⟨37, _⟩ => ⟨S8192x4096, .f32⟩
  | .hbm, ⟨38, _⟩ => ⟨S1x4096, .f32⟩
  | .hbm, ⟨39, _⟩ => ⟨S8192x4096, .f32⟩
  | .hbm, ⟨40, _⟩ => ⟨S8192x4096, .f32⟩
  | .hbm, ⟨41, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Proof.SbaIdeal.Body.lean ====
/-
  The attention kernel's body. One grid point is one head: it holds the head's queries, keys and values (8192 rows of
  128) and the 256 by 256 suffix matrix. For each of the 64 tiles of 128 query rows a data-dependent loop walks the key
  tiles from the diagonal down to the first one. This file says, as plain functions, what that loop returns (`walk`) and
  what the whole point leaves in the result's block (`outBlk`), and proves that the body computes them: the loop's label
  through a specification met by induction on the number of key tiles still to come (`walk_spec_le`), the counted loop
  over the query tiles through its invariant (`tiles_loop`), and the body itself (`kernel_run`).
-/
module

public import proofs.«01_k».proof.Proof.Gen.SbaIdeal
public import proofs.«01_k».proof.Proof.Gen.SbaIdeal.Skeleton
public import proofs.«01_k».proof.Proof.Gen.SbaIdeal.Loops
public import proofs.«01_k».proof.Proof.Gen.SbaIdeal.Launch
public import proofs.«01_k».proof.Proof.Gen.SbaIdeal.Points
public import Idealize.ShloMosaic.Lib.Tactic
public import Idealize.ShloMosaic.Lib.Exec
public import Idealize.ShloMosaic.Lib.Pipeline.Kit
public import Idealize.ShloMosaic.Lib.Pipeline.Frame
public import Idealize.ShloMosaic.Lib.Pipeline.FrameBody
public import Idealize.ShloMosaic.Lib.ValueIdxCore
public import Idealize.ShloMosaic.Lib.Writes

@[expose] public section

set_option maxRecDepth 16384

noncomputable section

namespace Cert.SbaIdeal.Run

open Cert.SbaIdeal Cert.SbaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The walk over the key tiles as a function -/

/-- Key tile `n`, `n` below 64, lies inside the 8192 rows: the check the body makes of the loop's counter. -/
theorem chk_of_lt : ∀ n : Fin 64, k0_chk1 (BitVec.ofNat 32 n.val) := by decide +kernel

/-- The rows `128 n .. 128 n + 127` of a head's keys or values. -/
def keyTile (X : Vec F S8192x128 .bf16) (n : ℕ) (h : n < 64) : Vec F S128x128 .bf16 :=
  View.ld X (Rect.unit (s := S8192x128) (k0_off2 (BitVec.ofNat 32 n)) S128x128.size (k0_off2_inb _ (chk_of_lt ⟨n, h⟩)))

/-- The suffix matrix as the body loads it. -/
def suffixMat (X : Vec F S256x256 .bf16) : Vec F S256x256 .bf16 :=
  View.ld X (Rect.unit (s := S256x256) ![0, 0] S256x256.size inb_S256x256_S256x256_0_0)

/-- The query rows of trip `t`. -/
def queryTile (X : Vec F S8192x128 .bf16) (t : Fin k0_t1_loop.trips) : Vec F S128x128 .bf16 :=
  View.ld X (Rect.unit (s := S8192x128) (k0_off1 t) S128x128.size (k0_off1_inb t))

/-- The first query row of trip `t`, as the word the body computes. -/
def row0 (t : Fin k0_t1_loop.trips) : BitVec 32 := Scalar.muli (Scf.iv 0#32 1#32 t) 128#32

/-- The threshold the largest running total is compared with. -/
def skipAt : F .f32 := Named.named κ "skip" 0xC2DC0000#32

/-- WHAT THE WALK RETURNS as the accumulated rows, entered with `n` key tiles still to come (tiles `n - 1` down to
    `0`), the largest running total `cm`, the running totals `ca` and the rows accumulated so far `acc`: nothing more
    once no tile is left or the largest total is not above the threshold; else tile `n - 1` is taken in. -/
def walk (q : Vec F S128x128 .bf16) (r0 : BitVec 32) (K V : Vec F S8192x128 .bf16) (U : Vec F S256x256 .bf16) :
    ℕ → F .f32 → FVec F S128x128 .f32 → FVec F S128x128 .f32 → FVec F S128x128 .f32
  | 0, _, _, acc => acc
  | n + 1, cm, ca, acc =>
    if Scalar.cmpf .ogt cm (skipAt (F := F)) = 1#1 then
      if h : n < 64 then
        walk q r0 K V U n
          (k0_pay3 (k0_pay10 q k0_pay1 (BitVec.ofNat 32 n) ca r0 (keyTile K n h) (suffixMat U)))
          (k0_pay9 q k0_pay1 (BitVec.ofNat 32 n) ca r0 (keyTile K n h) (suffixMat U))
          (k0_pay8 q k0_pay1 (BitVec.ofNat 32 n) ca acc r0 (keyTile K n h) (keyTile V n h) (suffixMat U))
      else acc
    else acc

/-- What trip `t` stores: the walk from the diagonal tile, with zero totals and zero rows. -/
def tileOut (Q K V : Vec F S8192x128 .bf16) (U : Vec F S256x256 .bf16) (t : Fin k0_t1_loop.trips) : FVec F S128x128 .f32 :=
  walk (queryTile Q t) (row0 t) K V U (t.val + 1) (Scalar.ofBits .f32 0x00000000#32) (k0_pay2 (F := F)) (k0_pay2 (F := F))

/-! ## The loop's counter -/

/-- With `n + 1` tiles to come the counter is `n`. -/
theorem counter_succ (n : ℕ) (h : n < 64) : BitVec.ofNat 32 (n + 1) - 1#32 = BitVec.ofNat 32 n := by
  have := (by decide +kernel : ∀ n : Fin 64, BitVec.ofNat 32 (n.val + 1) - 1#32 = BitVec.ofNat 32 n.val) ⟨n, h⟩
  exact this

/-- A counter below 64 is not negative. -/
theorem counter_nonneg (n : ℕ) (h : n < 64) : Scalar.cmpi .sge (BitVec.ofNat 32 n) 0#32 = 1#1 := by
  have := (by decide +kernel : ∀ n : Fin 64, Scalar.cmpi .sge (BitVec.ofNat 32 n.val) 0#32 = 1#1) ⟨n, h⟩
  exact this

theorem and_one (b : BitVec 1) : Scalar.andi 1#1 b = b := by
  revert b; decide

theorem and_zero (b : BitVec 1) : Scalar.andi 0#1 b = 0#1 := by
  revert b; decide

/-- Where the walk of trip `t` begins, as the word the body computes: the diagonal tile. -/
def start (t : Fin k0_t1_loop.trips) : BitVec 32 :=
  let arg6 : BitVec 32 := Scf.iv 0#32 1#32 t
  let v8 : BitVec 32 := Scalar.addi arg6 1#32
  let v9 : BitVec 32 := Scalar.muli v8 128#32
  let v10 : BitVec 32 := Scalar.divsi v9 128#32
  let v11 : BitVec 1 := Scalar.cmpi .sgt v9 0#32
  let v12 : BitVec 32 := Scalar.extui v11
  let v13 : BitVec 1 := Scalar.cmpi .slt v9 0#32
  let v14 : BitVec 32 := Scalar.extui v13
  let v15 : BitVec 32 := Scalar.subi v12 v14
  let v16 : BitVec 1 := Scalar.cmpi .sgt 128#32 0#32
  let v17 : BitVec 32 := Scalar.extui v16
  let v18 : BitVec 1 := Scalar.cmpi .slt 128#32 0#32
  let v19 : BitVec 32 := Scalar.extui v18
  let v20 : BitVec 32 := Scalar.subi v17 v19
  let v21 : BitVec 1 := Scalar.cmpi .ne v15 v20
  let v22 : BitVec 32 := Scalar.remsi v9 128#32
  let v23 : BitVec 1 := Scalar.cmpi .ne v22 0#32
  let v24 : BitVec 1 := Scalar.andi v21 v23
  let v25 : BitVec 32 := Scalar.subi v10 1#32
  let v26 : BitVec 32 := Scalar.select v24 v25 v10
  Scalar.subi v26 1#32

theorem start_eq : ∀ t : Fin k0_t1_loop.trips, start t = BitVec.ofNat 32 (t.val + 1) - 1#32 := by decide +kernel

theorem trips_eq : k0_t1_loop.trips = 64 := by decide +kernel

/-! ## The label's specification -/

section Label

variable (c : Dev nD) (i : grid0.Coords) (t : Fin k0_t1_loop.trips)
  (arg2 : Memref sig .tc .vmem S8192x128 .bf16) (harg2 : arg2.IsWhole) (arg3 : Memref sig .tc .vmem S8192x128 .bf16) (harg3 : arg3.IsWhole)
  (arg4 : Memref sig .tc .vmem S256x256 .bf16) (harg4 : arg4.IsWhole) (q : Vec F S128x128 .bf16)
  (K V : Vec F S8192x128 .bf16) (U : Vec F S256x256 .bf16)

/-- The three buffers the walk reads: keys, values, suffix matrix. -/
def held : sProp 𝕄 :=
  iprop((arg2.view.loc (c : Thread nD τ) ↦[arg2.view.set]{fullShare} harg2.unread K)
    ∗ (arg3.view.loc (c : Thread nD τ) ↦[arg3.view.set]{fullShare} harg3.unread V)
    ∗ (arg4.view.loc (c : Thread nD τ) ↦[arg4.view.set]{fullShare} harg4.unread U))

/-- The label's specification with `n` tiles to come: holding the three buffers it returns a record whose last
    component is `walk`'s value, the buffers as they were. -/
def walkSpec (n : ℕ) (cm : F .f32) (ca acc : FVec F S128x128 .f32) :
    sWPT 𝕄 (BitVec 32 × F .f32 × FVec F S128x128 .f32 × FVec F S128x128 .f32) := do
  sWPT.consume (held c arg2 harg2 arg3 harg3 arg4 harg4 K V U)
  let r ← sWPT.arbitrary
  sWPT.assume (r.2.2.2 = walk q (row0 t) K V U n cm ca acc)
  sWPT.produce (held c arg2 harg2 arg3 harg3 arg4 harg4 K V U)
  pure r

theorem walkSpec_apply (n : ℕ) (cm : F .f32) (ca acc : FVec F S128x128 .f32)
    (Q : BitVec 32 × F .f32 × FVec F S128x128 .f32 × FVec F S128x128 .f32 → sProp 𝕄) :
    walkSpec c t arg2 harg2 arg3 harg3 arg4 harg4 q K V U n cm ca acc Q
      = iprop(held c arg2 harg2 arg3 harg3 arg4 harg4 K V U
        ∗ ∀ r : BitVec 32 × F .f32 × FVec F S128x128 .f32 × FVec F S128x128 .f32,
          ⌜r.2.2.2 = walk q (row0 t) K V U n cm ca acc⌝ -∗ (held c arg2 harg2 arg3 harg3 arg4 harg4 K V U -∗ Q r)) := rfl

/-- The label's body meets the specification, by induction on the tiles to come: with none the counter is negative and
    the body returns; with `n + 1` either the largest total is not above the threshold and it returns, or the counter's
    tile is read, the totals and rows are updated and the label is called again with `n` to come. -/
theorem walk_spec_le (E : Set ℕ) :
    ∀ n, n ≤ 64 → ∀ (cm : F .f32) (ca acc : FVec F S128x128 .f32) Q,
      walkSpec c t arg2 harg2 arg3 harg3 arg4 harg4 q K V U n cm ca acc Q
      ⊢ wp frame (wpE (defs₀ (F := F)) Variants.nat (c : Thread nD τ) (some n)) E
          (defs₀ (F := F) .tc 1 ⟨i, t, arg2, harg2, arg3, harg3, q, k0_pay1, arg4, harg4, BitVec.ofNat 32 n - 1#32, cm, ca, acc⟩) Q := by
  intro n
  induction n with
  | zero =>
    intro _ cm ca acc Q
    rw [walkSpec_apply]
    show _ ⊢ wp frame (wpE (defs₀ (F := F)) Variants.nat (c : Thread nD τ) (some 0)) E
      (cc0_while1 i t arg2 harg2 arg3 harg3 q k0_pay1 arg4 harg4 (BitVec.ofNat 32 0 - 1#32) cm ca acc) Q
    simp only [cc0_while1_eq_skeleton]; unfold cc0_while1_skel
    have htest : Scalar.cmpi .sge (BitVec.ofNat 32 0 - 1#32) 0#32 = 0#1 := by decide
    simp only [htest, and_zero, show ¬ (0#1 = 1#1) by decide, ↓reduceIte, Prog.pure_eq_ret]
    iintro ⟨H, Hk⟩
    rw [wp_ret]; imodintro
    iapply Hk
    · ipureintro; rfl
    · iexact H
  | succ n ih =>
    intro hn cm ca acc Q
    have hn' : n < 64 := by omega
    rw [walkSpec_apply]
    show _ ⊢ wp frame (wpE (defs₀ (F := F)) Variants.nat (c : Thread nD τ) (some (n + 1))) E
      (cc0_while1 i t arg2 harg2 arg3 harg3 q k0_pay1 arg4 harg4 (BitVec.ofNat 32 (n + 1) - 1#32) cm ca acc) Q
    rw [counter_succ n hn']
    simp only [cc0_while1_eq_skeleton]; unfold cc0_while1_skel
    simp only [counter_nonneg n hn', and_one]
    by_cases hcm : Scalar.cmpf .ogt cm (skipAt (F := F)) = 1#1
    · have hcm' := hcm
      unfold skipAt at hcm'
      simp only [hcm', ↓reduceIte, k0_part1_eq_skeleton]
      unfold k0_part1_skel
      simp only [Prog.lift, Prog.bind_op, Prog.bind_ret, Prog.pure_eq_ret]
      unfold held
      iintro ⟨⟨H2, H3, H4⟩, Hk⟩
      iapply (wp_assume Variants.nat (c : Thread nD τ) (some (n + 1)) E (chk_of_lt ⟨n, hn'⟩))
      iapply (wp_load Variants.nat (c : Thread nD τ) (some (n + 1)) E (m := arg2) (View.setOn_subset_set _ _)) $$ H2; iintro H2
      iapply (wp_load Variants.nat (c : Thread nD τ) (some (n + 1)) E (m := arg3) (View.setOn_subset_set _ _)) $$ H3; iintro H3
      iapply (wp_load Variants.nat (c : Thread nD τ) (some (n + 1)) E (m := arg4) (View.setOn_subset_set _ _)) $$ H4; iintro H4
      simp only [View.readAt_eq_ld, Memref.IsWhole.read_unread]
      iapply (wp_call_spec Variants.nat (c : Thread nD τ) (some (n + 1)) E
        (walkSpec c t arg2 harg2 arg3 harg3 arg4 harg4 q K V U n
          (k0_pay3 (k0_pay10 q k0_pay1 (BitVec.ofNat 32 n) ca (row0 t) (keyTile K n hn') (suffixMat U)))
          (k0_pay9 q k0_pay1 (BitVec.ofNat 32 n) ca (row0 t) (keyTile K n hn') (suffixMat U))
          (k0_pay8 q k0_pay1 (BitVec.ofNat 32 n) ca acc (row0 t) (keyTile K n hn') (keyTile V n hn') (suffixMat U)))
        n (fun u hu => by cases hu; exact Nat.lt_succ_self n) (ih (by omega) _ _ _))
      rw [walkSpec_apply]; unfold held
      isplitl [H2 H3 H4]
      · isplitl [H2]; · iexact H2
        isplitl [H3]; · iexact H3
        iexact H4
      iintro %r %hr ⟨H2, H3, H4⟩
      rw [wp_ret]; imodintro
      iapply Hk
      · ipureintro; rw [hr]; conv_rhs => unfold walk
        rw [if_pos hcm, dif_pos hn']
      · isplitl [H2]; · iexact H2
        isplitl [H3]; · iexact H3
        iexact H4
    · have hcm' := hcm
      unfold skipAt at hcm'
      simp only [hcm', ↓reduceIte, Prog.pure_eq_ret]
      iintro ⟨H, Hk⟩
      rw [wp_ret]; imodintro
      iapply Hk
      · ipureintro; conv_rhs => unfold walk
        rw [if_neg hcm]
      · iexact H

end Label

/-! ## The whole point -/

/-- What a grid point leaves in the result's block: row `r` is row `r % 128` of the tile that trip `r / 128` stores. -/
def outBlk (Q K V : Vec F S8192x128 .bf16) (U : Vec F S256x256 .bf16) : Vec F S8192x128 .f32 := fun y =>
  tileOut Q K V U ⟨(y 0).val / 128, by
      have h : (y 0).val < 8192 := (y 0).isLt
      rw [trips_eq]; omega⟩
    (ValueIdx.ix2 (n0 := 128) (n1 := 128) ⟨(y 0).val % 128, Nat.mod_lt _ (by decide)⟩ (y 1))

theorem off1_eq : ∀ t : Fin k0_t1_loop.trips, k0_off1 t = ![128 * t.val, 0] := by decide +kernel

/-- Trip `k` stored over contents that agree with the result on the rows before it: the contents agree with the result
    on the rows of the trip too. -/
theorem stored_rows (arg5 : Memref sig .tc .vmem S8192x128 .f32) (Q K V : Vec F S8192x128 .bf16) (U : Vec F S256x256 .bf16)
    (k : Fin k0_t1_loop.trips) (f : BufTy.Contents (Elt F) arg5.view.ty)
    (hf : ∀ y : S8192x128.Idx, (y 0).val < 128 * k.val → arg5.view.read (Elt F) f y = outBlk Q K V U y)
    (y : S8192x128.Idx) (hy : (y 0).val < 128 * (k.val + 1)) :
    arg5.view.read (Elt F) (arg5.view.writes (Elt F) f
      [⟨Rect.unit (s := S8192x128) (k0_off1 k) S128x128.size (k0_off1_inb k), tileOut Q K V U k⟩]) y = outBlk Q K V U y := by
  by_cases h : (y 0).val < 128 * k.val
  · rw [View.read_writes_cons_miss_of_axis arg5.view f _ _ y (0 : Fin 2) (128 * k.val) 128
      (by show k0_off1 k 0 = _; rw [off1_eq]; rfl) rfl rfl (Or.inl h)]
    exact hf y h
  · have hq : (y 0).val / 128 = k.val := by omega
    rw [View.read_writes_cons_hit_of_coords arg5.view f _ _ _
      (ValueIdx.ix2 (n0 := 128) (n1 := 128) ⟨(y 0).val % 128, Nat.mod_lt _ (by decide)⟩ (y 1)) y ?_]
    · unfold outBlk
      have hk : (⟨(y 0).val / 128, by rw [hq]; exact k.isLt⟩ : Fin k0_t1_loop.trips) = k := Fin.ext hq
      rw [hk]
    · intro a
      match a with
      | ⟨0, _⟩ =>
        show (y 0).val = k0_off1 k 0 + 1 * ((y 0).val % 128)
        rw [off1_eq]
        show (y 0).val = 128 * k.val + 1 * ((y 0).val % 128)
        omega
      | ⟨1, _⟩ =>
        show (y 1).val = k0_off1 k 1 + 1 * (y 1).val
        rw [off1_eq]
        show (y 1).val = 0 + 1 * (y 1).val
        omega

set_option warn.classDefReducibility false in
/-- The counted loop over the query tiles: before trip `k` the four inputs are as they were and the result's buffer
    agrees with `outBlk` on the rows of the trips before `k`. -/
@[sl_loop] def tilesLoop (c : Dev nD) (i : grid0.Coords) (arg1 : Memref sig .tc .vmem S8192x128 .bf16) (harg1 : arg1.IsWhole)
    (arg2 : Memref sig .tc .vmem S8192x128 .bf16) (harg2 : arg2.IsWhole) (arg3 : Memref sig .tc .vmem S8192x128 .bf16) (harg3 : arg3.IsWhole)
    (arg4 : Memref sig .tc .vmem S256x256 .bf16) (harg4 : arg4.IsWhole) (arg5 : Memref sig .tc .vmem S8192x128 .f32) (harg5 : arg5.IsWhole)
    (E : Set ℕ) (Q K V : Vec F S8192x128 .bf16) (U : Vec F S256x256 .bf16) :
    Gen.LoopInvTy_k0_t1 (F := F) Unit ℕ (UR sig nD τ) ℕ Variants.nat c none E i arg1 harg1 arg2 harg2 arg3 harg3 arg4 harg4 arg5 harg5 where
  inv := fun k _ => iprop((arg1.view.loc (c : Thread nD τ) ↦[arg1.view.set]{fullShare} harg1.unread Q)
    ∗ held c arg2 harg2 arg3 harg3 arg4 harg4 K V U
    ∗ ∃ f, (arg5.view.loc (c : Thread nD τ) ↦[arg5.view.set]{fullShare} f)
      ∗ ⌜∀ y : S8192x128.Idx, (y 0).val < 128 * k → arg5.view.read (Elt F) f y = outBlk Q K V U y⌝)
  step := fun k acc => by
    unfold k0_t1_body
    simp only [Prog.lift, Prog.bind_op, Prog.bind_ret, Prog.pure_eq_ret]
    iintro ⟨H1, H, ⟨%f, H5, %hf⟩⟩
    iapply (wp_load Variants.nat (c : Thread nD τ) none E (m := arg1) (View.setOn_subset_set _ _)) $$ H1; iintro H1
    simp only [View.readAt_eq_ld, Memref.IsWhole.read_unread]
    have hspec := walk_spec_le (F := F) c i k arg2 harg2 arg3 harg3 arg4 harg4 (queryTile Q k) K V U E (k.val + 1)
      (by have := k.isLt; have h : k.val < 64 := by rw [← trips_eq]; exact this
          omega) (Scalar.ofBits .f32 0x00000000#32) (k0_pay2 (F := F)) (k0_pay2 (F := F))
    rw [← start_eq] at hspec
    iapply (wp_call_spec Variants.nat (c : Thread nD τ) none E
      (walkSpec c k arg2 harg2 arg3 harg3 arg4 harg4 (queryTile Q k) K V U (k.val + 1) (Scalar.ofBits .f32 0x00000000#32)
        (k0_pay2 (F := F)) (k0_pay2 (F := F)))
      (k.val + 1) (fun u hu => nomatch hu) hspec)
    rw [walkSpec_apply]
    isplitl [H]; · iexact H
    iintro %r %hr H
    obtain ⟨r0, r1, r2, r3⟩ := r
    iapply (wp_load Variants.nat (c : Thread nD τ) none E (m := arg5) (View.setOn_subset_set _ _)) $$ H5; iintro H5
    iapply (wp_store Variants.nat (c : Thread nD τ) none E (m := arg5)
      (r := Rect.unit (s := S8192x128) (k0_off1 k) S128x128.size (k0_off1_inb k)) (Mk := Finset.univ)
      (((arg5.access _).setOn_subset_set _).trans (View.set_slice_subset _ _))) $$ H5; iintro H5
    rw [wp_ret]; imodintro
    isplitl [H1]; · iexact H1
    isplitl [H]; · iexact H
    iexists _
    isplitl [H5]; · iexact H5
    ipureintro
    intro y hy
    have hr' : r3 = tileOut Q K V U k := hr
    subst hr'
    exact stored_rows arg5 Q K V U k f hf y hy

/-- The invariant of `tilesLoop`, spelled out. -/
theorem tilesLoop_inv (c : Dev nD) (i : grid0.Coords) (arg1 : Memref sig .tc .vmem S8192x128 .bf16) (harg1 : arg1.IsWhole)
    (arg2 : Memref sig .tc .vmem S8192x128 .bf16) (harg2 : arg2.IsWhole) (arg3 : Memref sig .tc .vmem S8192x128 .bf16) (harg3 : arg3.IsWhole)
    (arg4 : Memref sig .tc .vmem S256x256 .bf16) (harg4 : arg4.IsWhole) (arg5 : Memref sig .tc .vmem S8192x128 .f32) (harg5 : arg5.IsWhole)
    (E : Set ℕ) (Q K V : Vec F S8192x128 .bf16) (U : Vec F S256x256 .bf16) (k : ℕ) (a : Unit) :
    (tilesLoop (F := F) c i arg1 harg1 arg2 harg2 arg3 harg3 arg4 harg4 arg5 harg5 E Q K V U).inv k a
      = iprop((arg1.view.loc (c : Thread nD τ) ↦[arg1.view.set]{fullShare} harg1.unread Q)
        ∗ held c arg2 harg2 arg3 harg3 arg4 harg4 K V U
        ∗ ∃ f, (arg5.view.loc (c : Thread nD τ) ↦[arg5.view.set]{fullShare} f)
          ∗ ⌜∀ y : S8192x128.Idx, (y 0).val < 128 * k → arg5.view.read (Elt F) f y = outBlk Q K V U y⌝) := rfl

/-- The body at a grid point, on whole staging buffers, the inputs' at their contents and the result's at anything: it
    leaves the inputs as they were and the result's buffer at `outBlk`. -/
theorem kernel_run (c : Dev nD) (i : grid0.Coords) (arg1 : Memref sig .tc .vmem S8192x128 .bf16) (harg1 : arg1.IsWhole)
    (arg2 : Memref sig .tc .vmem S8192x128 .bf16) (harg2 : arg2.IsWhole) (arg3 : Memref sig .tc .vmem S8192x128 .bf16) (harg3 : arg3.IsWhole)
    (arg4 : Memref sig .tc .vmem S256x256 .bf16) (harg4 : arg4.IsWhole) (arg5 : Memref sig .tc .vmem S8192x128 .f32) (harg5 : arg5.IsWhole)
    (Q K V : Vec F S8192x128 .bf16) (U : Vec F S256x256 .bf16) (E : Set ℕ) (Φ : PUnit → sProp 𝕄) :
    iprop(owns (c : Thread nD τ) arg1 fullShare Q ∗ owns (c : Thread nD τ) arg2 fullShare K ∗ owns (c : Thread nD τ) arg3 fullShare V
        ∗ owns (c : Thread nD τ) arg4 fullShare U ∗ (∃ d, owns (c : Thread nD τ) arg5 fullShare d)
        ∗ (iprop(owns (c : Thread nD τ) arg1 fullShare Q ∗ owns (c : Thread nD τ) arg2 fullShare K ∗ owns (c : Thread nD τ) arg3 fullShare V
            ∗ owns (c : Thread nD τ) arg4 fullShare U ∗ owns (c : Thread nD τ) arg5 fullShare (outBlk Q K V U)) -∗ Φ ⟨⟩))
      ⊢ wp frame (wpE (defs₀ (F := F)) Variants.nat c none) E
          (cc0_sba_attention i arg1 harg1 arg2 harg2 arg3 harg3 arg4 harg4 arg5 harg5) Φ := by
  simp only [cc0_sba_attention_eq_skeleton]; unfold cc0_sba_attention_skel
  unfold owns
  iintro ⟨⟨%f1, %hf1, H1⟩, ⟨%f2, %hf2, H2⟩, ⟨%f3, %hf3, H3⟩, ⟨%f4, %hf4, H4⟩, ⟨%d5, %f5, -, H5⟩, Hk⟩
  obtain rfl := harg1.eq_unread hf1; obtain rfl := harg2.eq_unread hf2; obtain rfl := harg3.eq_unread hf3; obtain rfl := harg4.eq_unread hf4
  iapply (exec_loop frame (wpE (defs₀ (F := F)) Variants.nat (c : Thread nD τ) none) E _ _ _ _ _ _
    (tilesLoop (F := F) c i arg1 harg1 arg2 harg2 arg3 harg3 arg4 harg4 arg5 harg5 E Q K V U)) $$ [H1 H2 H3 H4 H5]
  · rw [tilesLoop_inv]; unfold held
    isplitl [H1]; · iexact H1
    isplitl [H2 H3 H4]
    · isplitl [H2]; · iexact H2
      isplitl [H3]; · iexact H3
      iexact H4
    iexists _
    isplitl [H5]; · iexact H5
    ipureintro
    intro y hy
    exact absurd hy (by omega)
  iintro %a
  rw [tilesLoop_inv]; unfold held
  iintro ⟨H1, ⟨H2, H3, H4⟩, ⟨%f, H5, %hf⟩⟩
  simp only [Prog.pure_eq_ret]
  rw [wp_ret]; imodintro
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _
  isplitr; swap; · iexact H5
  ipureintro
  funext y
  refine hf y ?_
  have h : (y 0).val < 8192 := (y 0).isLt
  have h' : Scf.trips k0_t1_loop.lb k0_t1_loop.ub k0_t1_loop.st = 64 := trips_eq
  rw [h']; omega

end Cert.SbaIdeal.Run

end
-- ==== Proof.SbaIdeal.Frame.lean ====
/-
  The attention kernel's launch. The head's queries, keys and values are three column blocks of the one projected array,
  so three windows stage one argument; the suffix matrix is a host constant; the result's block of 128 columns is written
  back at every point. This file gives the pipeline's proof data (what every staging buffer holds after a point), closes
  the body obligation by `kernel_run`, and concludes the run of @main with the result array named, and the frame.
-/
module

public import proofs.«01_k».proof.Proof.SbaIdeal.Body
public import Idealize.ShloMosaic.Lib.Pipeline.Sound
public import Idealize.ShloMosaic.Lib.Pipeline.Kit

@[expose] public section

set_option maxRecDepth 16384

noncomputable section

namespace Cert.SbaIdeal.Run

open Cert.SbaIdeal Cert.SbaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main up to the region -/

/-- A TensorCore buffer when the region is entered: after the one host operation, the suffix matrix's constant. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main up to the region: the constant, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The constant does not write the argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, Finset.mem_singleton]
    exact StableHlo.devRef_ne_of_ne (by decide)))

/-- The suffix matrix's buffer holds the constant. -/
theorem V_main_cst (c : Dev nD) : V m c main_cst = fun i => FloatOps.ofBits .bf16 (lit0 (S256x256.rowMajor i)) := by
  show StableHlo.after hostOps0 (fun b => m (c, b)) (Proc.devRef .tc main_cst) = _
  unfold hostOps0
  simp only [StableHlo.after_cons, StableHlo.after_nil]
  exact StableHlo.nullary_result _ _ _ _

/-! ## The windows' blocks -/

/-- Window `w`'s block at point `t`, read off its array as the region finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- What the result's staging buffer holds after the body at point `t`. -/
def outsAt (c : Dev nD) (t : Fin (cfg0 (F := F)).N) : Vec F S8192x128 .f32 := outBlk (iblk m c 0 t) (iblk m c 1 t) (iblk m c 2 t) (iblk m c 3 t)

/-- The pipeline's proof data: the arrays as the region finds them; after each point every input's buffer at its block
    and the result's at `outsAt`; nothing owed; each input at its share of its array. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outsAt m c t
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

theorem after_q (c : Dev nD) (t : Fin (cfg0 (F := F)).N) : (dats m 0 c).after 0 t = iblk m c 0 t := by dsimp only [dats]; rfl
theorem after_k (c : Dev nD) (t : Fin (cfg0 (F := F)).N) : (dats m 0 c).after 1 t = iblk m c 1 t := by dsimp only [dats]; rfl
theorem after_v (c : Dev nD) (t : Fin (cfg0 (F := F)).N) : (dats m 0 c).after 2 t = iblk m c 2 t := by dsimp only [dats]; rfl
theorem after_u (c : Dev nD) (t : Fin (cfg0 (F := F)).N) : (dats m 0 c).after 3 t = iblk m c 3 t := by dsimp only [dats]; rfl
theorem after_o (c : Dev nD) (t : Fin (cfg0 (F := F)).N) : (dats m 0 c).after 4 t = outsAt m c t := by dsimp only [dats]; rfl

/-- An input's staging buffer holds its block at every point, whether fetched there or kept from the point before. -/
theorem before_q (c : Dev nD) (t : Fin (cfg0 (F := F)).N) (d) : (dats m 0 c).before 0 t d = iblk m c 0 t :=
  ((dats m 0 c).before_in_eq_fetched 0 rfl (fun _ => rfl) (fun _ _ _ => rfl)
    (fun t => by rw [after_q]; unfold Dat.blockOf iblk; rw [A_eq]; rfl) t d).trans (by unfold Dat.fetched Dat.blockOf iblk; rw [A_eq]; rfl)
theorem before_k (c : Dev nD) (t : Fin (cfg0 (F := F)).N) (d) : (dats m 0 c).before 1 t d = iblk m c 1 t :=
  ((dats m 0 c).before_in_eq_fetched 1 rfl (fun _ => rfl) (fun _ _ _ => rfl)
    (fun t => by rw [after_k]; unfold Dat.blockOf iblk; rw [A_eq]; rfl) t d).trans (by unfold Dat.fetched Dat.blockOf iblk; rw [A_eq]; rfl)
theorem before_v (c : Dev nD) (t : Fin (cfg0 (F := F)).N) (d) : (dats m 0 c).before 2 t d = iblk m c 2 t :=
  ((dats m 0 c).before_in_eq_fetched 2 rfl (fun _ => rfl) (fun _ _ _ => rfl)
    (fun t => by rw [after_v]; unfold Dat.blockOf iblk; rw [A_eq]; rfl) t d).trans (by unfold Dat.fetched Dat.blockOf iblk; rw [A_eq]; rfl)
theorem before_u (c : Dev nD) (t : Fin (cfg0 (F := F)).N) (d) : (dats m 0 c).before 3 t d = iblk m c 3 t :=
  ((dats m 0 c).before_in_eq_fetched 3 rfl (fun _ => rfl) (fun _ _ _ => rfl)
    (fun t => by rw [after_u]; unfold Dat.blockOf iblk; rw [A_eq]; rfl) t d).trans (by unfold Dat.fetched Dat.blockOf iblk; rw [A_eq]; rfl)

/-! ## The body obligation -/

/-- What the body is called with at point `t`, window by window, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so `kernel_run` applies. -/
theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before_q, before_k, before_v, before_u]
  rw [show (dats m 0 c).Φ t.succ = (dats m 0 c).Φ t.castSucc from rfl,
    show (dats m 0 c).owesAt () t.succ = (dats m 0 c).owesAt () t.castSucc from rfl,
    after_q, after_k, after_v, after_u, after_o]
  unfold outsAt
  iintro ⟨HΦ, Ho, ⟨%d0, H0⟩, ⟨%d1, H1⟩, ⟨%d2, H2⟩, ⟨%d3, H3⟩, ⟨%d4, H4⟩⟩
  iapply (kernel_run (F := F) c (grid0.coords t) _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row (t : Fin (cfg0 (F := F)).N) : defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) Variants.nat () Set.univ := fun t => by
  rw [bigSep_W0, bigSep_W0, defs₀_row]
  exact triple_restated (sound_body m c t) rfl .rfl fun _ => .rfl

/-! ## The run and the frame -/

set_option backward.isDefEq.respectTransparency.types false in
/-- The launch: every execution of @main terminates with the pipeline's arrays at what the proof data compute, every
    other buffer as the region found it, and every semaphore counter at zero. -/
theorem run_main : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.nat m ρ main
    (hbody := fun c => (body_obligation m c).loose) (hq := fun _ _ _ => rfl)
    (howed := fun _ _ => rfl) (V := V m) (hmain := hmain m Variants.nat) (hA := A_eq m) (hΦ := fun _ _ => rfl)

/-- The run with the result array named and the argument as launched, counters at zero. -/
theorem run_named : θ_run defs (onTc (τ := τ) (main (F := F))) ⟨m, fun _ => 0, ρ⟩ (fun r => (∀ c : Dev nD,
      r.2.mem ((c : Thread nD τ).loc main_v0) = (dats m 0 c).arrAt 4 (cfg0 (F := F)).N
      ∧ r.2.mem ((c : Thread nD τ).loc main_arg0) = m ((c : Thread nD τ).loc main_arg0)) ∧ r.2.sem = fun _ => 0) :=
  (θ_run defs _ _).mono (fun r h => ⟨fun c => ⟨(h.1 c).1 4,
      ((h.1 c).1 0).trans (((dats m 0 c).arrAt_in 0 rfl _).trans ((A_eq m c 0).trans (V_main_arg0 m c)))⟩, h.2⟩) (run_main m ρ)

/-- The frame: @main terminates, its argument as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun r h => ⟨fun c => (h.1 c).2, h.2⟩) (run_named m ρ)

end Cert.SbaIdeal.Run

end
-- ==== Proof.SbaIdeal.Suffix.lean ====
/-
  The suffix matrix in closed form. Of its 256 by 256 entries the kernel's products read, for real scores, the upper half
  alone: row `b` holds a one in every column `c` below `b`, and in every column from 128 on.
-/
module

public import proofs.«01_k».proof.SbaIdeal

@[expose] public section

set_option maxRecDepth 65536

noncomputable section

namespace Cert.SbaIdeal.Run

open Cert.SbaIdeal

/-- A row of the upper half, among the first 128 columns: ones before the diagonal. -/
theorem suffix_left : ∀ b c : Fin 128, lit0t (256 * b.val + c.val) = if c.val < b.val then 0x3F80#16 else 0x0000#16 := by
  decide +kernel

/-- A row of the upper half, among the last 128 columns: ones. -/
theorem suffix_right : ∀ b c : Fin 128, lit0t (256 * b.val + (128 + c.val)) = 0x3F80#16 := by
  decide +kernel

end Cert.SbaIdeal.Run

end
-- ==== Proof.SbaIdeal.Stick.lean ====
/-
  Stick-breaking weights over the real numbers. Where the scores are real, so are their log-sigmoids, and both spellings
  of the log-sigmoid (the kernel's and the reference's) are one real function, `logSig`. From queries and keys given row by
  row this file defines the score of a query and a key, what one key leaves of the stick, the weight of a key, and the
  attended row.
-/
module

public import Idealize.ShloMosaic.PureOps.Ideal
public import Idealize.ShloMosaic.PureOps.Ideal.Laws
public import Idealize.ShloMosaic.Lib.IdealHost

@[expose] public section

noncomputable section

namespace Cert.Stick

open Idealize.ShloMosaic

/-! ## The log-sigmoid -/

/-- `log (sigmoid x)`, in the form that never overflows. -/
def logSig (x : ℝ) : ℝ := min x 0 - Real.log (1 + Real.exp (-|x|))

/-- The exponential of a real number. -/
theorem exp_real (x : ℝ) : Ideal.exp (x : EReal) = (Real.exp x : EReal) := rfl

/-- `log (1 + e^x)` of a real number. -/
theorem log1p_exp_real (x : ℝ) : Ideal.log1p (Ideal.exp (x : EReal)) = (Real.log (1 + Real.exp x) : EReal) := by
  have h : ¬ (1 + Real.exp x ≤ 0) := by have := Real.exp_pos x; linarith
  show Ideal.log (1 + (Real.exp x : EReal)) = _
  rw [show (1 : EReal) + (Real.exp x : EReal) = ((1 + Real.exp x : ℝ) : EReal) by norm_cast]
  show (if 1 + Real.exp x ≤ 0 then (⊥ : EReal) else _) = _
  rw [if_neg h]

theorem max_real (x y : ℝ) : ((max x y : ℝ) : EReal) = max (x : EReal) (y : EReal) := EReal.coe_strictMono.monotone.map_max
theorem min_real (x y : ℝ) : ((min x y : ℝ) : EReal) = min (x : EReal) (y : EReal) := EReal.coe_strictMono.monotone.map_min

/-- The absolute value as the larger of a number and its negative. -/
theorem abs_real (x : ℝ) : max (x : EReal) (-(x : EReal)) = ((|x| : ℝ) : EReal) := by
  rw [← EReal.coe_neg, ← max_real]; rfl

/-- The kernel's log-sigmoid. -/
theorem logSig_kernel (x : ℝ) :
    min (x : EReal) 0 - Ideal.log1p (Ideal.exp (0 - max (x : EReal) (-(x : EReal)))) = ((logSig x : ℝ) : EReal) := by
  rw [abs_real, zero_sub, ← EReal.coe_neg, log1p_exp_real, ← EReal.coe_zero, ← min_real, ← EReal.coe_sub]; rfl

/-- The reference's softplus of a real number, less its guard. -/
theorem softplus_real (y : ℝ) :
    max (y : EReal) 0 + Ideal.log1p (Ideal.exp (-(max ((y : EReal) - 0) (-((y : EReal) - 0)))))
      = ((max y 0 + Real.log (1 + Real.exp (-|y|)) : ℝ) : EReal) := by
  rw [sub_zero, abs_real, ← EReal.coe_neg, log1p_exp_real, ← EReal.coe_zero, ← max_real, ← EReal.coe_add]

/-- Minus the softplus of `-x` is the log-sigmoid of `x`. -/
theorem neg_softplus_neg (x : ℝ) : -(max (-x) 0 + Real.log (1 + Real.exp (-|(-x)|))) = logSig x := by
  unfold logSig
  rw [abs_neg]
  rcases le_total x 0 with h | h
  · rw [max_eq_left (by linarith), min_eq_left h]; ring
  · rw [max_eq_right (by linarith), min_eq_right h]; ring

/-- Minus the softplus of `x` is the log-sigmoid of `x`, less `x`. -/
theorem neg_softplus (x : ℝ) : -(max x 0 + Real.log (1 + Real.exp (-|x|))) = logSig x - x := by
  unfold logSig
  rcases le_total x 0 with h | h
  · rw [max_eq_right h, min_eq_left h]; ring
  · rw [max_eq_left h, min_eq_right h]; ring

/-! ## Scores and weights -/

/-- The number the scores are multiplied by, `1 / √128`. -/
def scaleAt : ℝ := (Real.sqrt 128)⁻¹

variable (q k : ℕ → Fin 128 → EReal)

/-- The score of query row `t` and key row `s`. -/
def score (t s : ℕ) : ℝ := (∑ d : Fin 128, (q t d).toReal * (k s d).toReal) * scaleAt

/-- The logarithm of what key `s` leaves of the stick of query `t`: nothing is taken at or past the query. -/
def keep (t s : ℕ) : ℝ := if s < t then logSig (score q k t s) - score q k t s else 0

/-- The weight of key `s` for query `t`: the key's share of what the keys between them left. -/
def weight (t s : ℕ) : EReal :=
  if s < t then ((Real.exp (logSig (score q k t s) + ∑ j ∈ Finset.Ico (s + 1) 8192, keep q k t j) : ℝ) : EReal) else 0

/-- The attended row of query `t`. -/
def attend (v : ℕ → Fin 128 → EReal) (t : ℕ) (d : Fin 128) : EReal := ∑ s ∈ Finset.range 8192, weight q k t s * v s d

/-- A sum of real numbers, read in the extended reals. -/
theorem coe_sum {ι : Type*} (S : Finset ι) (f : ι → ℝ) : ((∑ i ∈ S, f i : ℝ) : EReal) = ∑ i ∈ S, (f i : EReal) := by
  classical
  induction S using Finset.induction_on with
  | empty => simp
  | insert a S h ih => rw [Finset.sum_insert h, Finset.sum_insert h, EReal.coe_add, ih]

/-- Of real queries and keys the product times `1 / √128` is the score. -/
theorem score_real {a b : Fin 128 → EReal} (ha : ∀ d, a d ≠ ⊤ ∧ a d ≠ ⊥) (hb : ∀ d, b d ≠ ⊤ ∧ b d ≠ ⊥) :
    (∑ d : Fin 128, a d * b d) * (scaleAt : EReal)
      = (((∑ d : Fin 128, (a d).toReal * (b d).toReal) * scaleAt : ℝ) : EReal) := by
  rw [EReal.coe_mul, coe_sum]
  congr 1
  refine Finset.sum_congr rfl fun d _ => ?_
  rw [EReal.coe_mul, EReal.coe_toReal (ha d).1 (ha d).2, EReal.coe_toReal (hb d).1 (hb d).2]

/-! ## Sums over a tile of 128 keys -/

/-- The keys from `128 n` on: those of tile `n` and those after it. -/
theorem sum_from_tile (f : ℕ → ℝ) (n : ℕ) (h : n < 64) :
    ∑ j ∈ Finset.Ico (128 * n) 8192, f j = ∑ c : Fin 128, f (128 * n + c.val) + ∑ j ∈ Finset.Ico (128 * (n + 1)) 8192, f j := by
  rw [← Finset.sum_Ico_consecutive f (show 128 * n ≤ 128 * (n + 1) by omega) (show 128 * (n + 1) ≤ 8192 by omega)]
  congr 1
  rw [Finset.sum_Ico_eq_sum_range, show 128 * (n + 1) - 128 * n = 128 by omega, ← Fin.sum_univ_eq_sum_range (fun c => f (128 * n + c))]

/-- The keys after `128 n + c`: those of tile `n` after the `c`th, and those of the later tiles. -/
theorem sum_after_in_tile (f : ℕ → ℝ) (n : ℕ) (h : n < 64) (c : Fin 128) :
    ∑ j ∈ Finset.Ico (128 * n + c.val + 1) 8192, f j
      = (∑ b : Fin 128, if c.val < b.val then f (128 * n + b.val) else 0) + ∑ j ∈ Finset.Ico (128 * (n + 1)) 8192, f j := by
  have hc := c.isLt
  rw [← Finset.sum_Ico_consecutive f (show 128 * n + c.val + 1 ≤ 128 * (n + 1) by omega) (show 128 * (n + 1) ≤ 8192 by omega)]
  congr 1
  rw [Fin.sum_univ_eq_sum_range (fun b => if c.val < b then f (128 * n + b) else 0), ← Finset.sum_filter,
    Finset.range_eq_Ico, show (Finset.Ico 0 128).filter (fun b => c.val < b) = Finset.Ico (c.val + 1) 128 by
      ext b; simp only [Finset.mem_filter, Finset.mem_Ico]; omega,
    Finset.sum_Ico_add f (c.val + 1) 128 (128 * n)]
  congr 2 <;> omega

/-- The keys before `128 (n + 1)`: those before tile `n` and those of it. -/
theorem sum_upto_tile (f : ℕ → EReal) (n : ℕ) :
    ∑ j ∈ Finset.range (128 * (n + 1)), f j = ∑ j ∈ Finset.range (128 * n), f j + ∑ c : Fin 128, f (128 * n + c.val) := by
  rw [show 128 * (n + 1) = 128 * n + 128 by ring, Finset.sum_range_add, ← Fin.sum_univ_eq_sum_range (fun c => f (128 * n + c))]

end Cert.Stick

end
-- ==== Proof.SbaIdeal.Step.lean ====
/-
  What one step of the walk computes, over the extended reals and for real scores: of a tile of 128 queries and a tile of
  128 keys, the running totals grow by what the tile's keys leave, and the rows by the tile's weighted values.
-/
module

public import proofs.«01_k».proof.Proof.SbaIdeal.Body
public import proofs.«01_k».proof.Proof.SbaIdeal.Stick
public import Idealize.ShloMosaic.Lib.Pipeline.ValueKit

@[expose] public section

set_option maxRecDepth 16384

noncomputable section

namespace Cert.SbaIdeal.Run

open Cert.SbaIdeal Cert.SbaIdeal.Gen Idealize.ShloMosaic Idealize.ShloMosaic.TcCoe Idealize.SL.Sem Cert.Stick

/-- The signed comparison of two differences of small numbers compares the differences. -/
theorem before_iff (a b t s : ℕ) (ha : a < 8192) (hb : b < 8192) (ht : t < 8192) (hs : s < 8192) :
    IntOp.cmpi CmpIPredicate.slt (BitVec.ofNat 32 b - BitVec.ofNat 32 a) (BitVec.ofNat 32 t - BitVec.ofNat 32 s)
      = if s + b < t + a then 1#1 else 0#1 := by
  have h (x y : ℕ) (hx : x < 8192) (hy : y < 8192) : (BitVec.ofNat 32 x - BitVec.ofNat 32 y).toInt = (x : Int) - y := by
    rw [BitVec.toInt_sub]
    simp only [BitVec.toInt_eq_toNat_bmod, BitVec.toNat_ofNat, Int.bmod]; omega
  show BitVec.ofBool (BitVec.slt _ _) = _
  rw [BitVec.slt, h _ _ hb ha, h _ _ ht hs]
  by_cases hlt : s + b < t + a
  · rw [if_pos hlt, decide_eq_true (by omega)]; rfl
  · rw [if_neg hlt, decide_eq_false (by omega)]; rfl

theorem row0_eq : ∀ t : Fin k0_t1_loop.trips, row0 t = BitVec.ofNat 32 (128 * t.val) := by decide +kernel
theorem base_eq : ∀ n : Fin 64, Scalar.muli (BitVec.ofNat 32 n.val) 128#32 = BitVec.ofNat 32 (128 * n.val) := by decide +kernel
theorem off2_eq : ∀ n : Fin 64, k0_off2 (BitVec.ofNat 32 n.val) = ![128 * n.val, 0] := by decide +kernel

/-- The mask of query tile `t` and key tile `n`: keys before the query. -/
theorem mask_at (t : Fin k0_t1_loop.trips) (n : ℕ) (hn : n < 64) (r c : Fin 128) :
    k0_pay5 k0_pay1 (BitVec.ofNat 32 n) (row0 t) (ix2 r c) = if 128 * n + c.val < 128 * t.val + r.val then 1#1 else 0#1 := by
  have ht : t.val < 64 := lt_of_lt_of_eq t.isLt trips_eq
  pointwise [k0_pay5, k0_pay1]
  rw [row0_eq, base_eq ⟨n, hn⟩]
  exact before_iff r.val c.val (128 * t.val) (128 * n) (by omega) (by omega) (by omega) (by omega)

section Tile

variable (q k v : Vec Ideal S128x128 .bf16) (U : Vec Ideal S256x256 .bf16) (w : IVec S128x128 32) (a b : BitVec 32)
  (qf kf : ℕ → Fin 128 → EReal) (T S : ℕ)

/-- The product of two tiles, scaled. -/
theorem pay4_at (r c : Fin 128) : (k0_pay4 q k : FVec Ideal S128x128 .f32) (ix2 r c)
    = (∑ d : Fin 128, q (ix2 r d) * k (ix2 c d)) * (scaleAt : EReal) := by
  pointwise [k0_pay4]
  rw [show (Named.named κ "scale" 0x3DB504F3#32 : Ideal .f32) = (scaleAt : EReal) from IdealRules.named_const.ideal_named_scalar _ _ _ _ rfl]

variable (hz : ∀ r c : Fin 128, (k0_pay4 q k : FVec Ideal S128x128 .f32) (ix2 r c) = ((score qf kf (T + r.val) (S + c.val) : ℝ) : EReal))
  (hm : ∀ r c : Fin 128, k0_pay5 w a b (ix2 r c) = if S + c.val < T + r.val then 1#1 else 0#1)
  (hU : ∀ (j : Fin 128) (c : Fin 256) (h : j.val < 256),
    U (ix2 ⟨j.val, h⟩ c) = if 128 ≤ c.val ∨ c.val < j.val then (1 : EReal) else 0)

include hz in
/-- The log-sigmoids of the tile's scores. -/
theorem pay6_at (r c : Fin 128) :
    (k0_pay6 q k : FVec Ideal S128x128 .f32) (ix2 r c) = ((logSig (score qf kf (T + r.val) (S + c.val)) : ℝ) : EReal) := by
  pointwise [k0_pay6]
  rw [hz]
  exact logSig_kernel _

include hz hm hU in
/-- The product with the suffix matrix, at a column: the sum over the keys whose entry of that column is a one. -/
theorem pay7_at (r : Fin 128) (c : Fin 256) :
    (k0_pay7 q w a b k U : FVec Ideal S128x256 .f32) (ix2 r c)
      = ((∑ j : Fin 128, if 128 ≤ c.val ∨ c.val < j.val then keep qf kf (T + r.val) (S + j.val) else 0 : ℝ) : EReal) := by
  have hk (j : Fin 128) : Scalar.select (k0_pay5 w a b (ix2 r j)) ((k0_pay6 q k : FVec Ideal S128x128 .f32) (ix2 r j) - (k0_pay4 q k : FVec Ideal S128x128 .f32) (ix2 r j)) (0 : EReal)
      = ((keep qf kf (T + r.val) (S + j.val) : ℝ) : EReal) := by
    rw [hm, pay6_at q k qf kf T S hz, hz]
    unfold keep
    by_cases h : S + j.val < T + r.val
    · rw [if_pos h, if_pos h, EReal.coe_sub]; rfl
    · rw [if_neg h, if_neg h]; rfl
  pointwise [k0_pay7]
  rw [coe_sum, ← add_zero (∑ j : Fin 128, ((if 128 ≤ c.val ∨ c.val < j.val then keep qf kf (T + r.val) (S + j.val) else 0 : ℝ) : EReal))]
  congr 1
  · refine Finset.sum_congr rfl fun j _ => ?_
    rw [hU, hm, pay6_at q k qf kf T S hz, hz, ← EReal.coe_sub]
    unfold keep
    by_cases h : S + j.val < T + r.val
    · rw [if_pos h, if_pos h, ValueIdx.select_one]
      by_cases h' : 128 ≤ c.val ∨ c.val < j.val
      · rw [if_pos h', if_pos h', mul_one]
      · rw [if_neg h', if_neg h', mul_zero, EReal.coe_zero]
    · rw [if_neg h, if_neg h, ValueIdx.select_zero, ite_self, EReal.coe_zero]
  · refine Finset.sum_eq_zero fun j _ => ?_
    rw [hk, ← EReal.coe_sub, sub_self, EReal.coe_zero, zero_mul]

variable (ca acc : FVec Ideal S128x128 .f32) (A : Fin 128 → ℝ) (hA : ∀ r c : Fin 128, ca (ix2 r c) = ((A r : ℝ) : EReal))

include hz hm hU hA in
/-- The running totals after the tile. -/
theorem pay9_at (r c : Fin 128) : (k0_pay9 q w a ca b k U : FVec Ideal S128x128 .f32) (ix2 r c)
    = ((∑ j : Fin 128, keep qf kf (T + r.val) (S + j.val) + A r : ℝ) : EReal) := by
  pointwise [k0_pay9]
  rw [pay7_at q k U w a b qf kf T S hz hm hU, hA, ← EReal.coe_add, add_comm]
  congr 2
  exact Finset.sum_congr rfl fun j _ => if_pos (Or.inl (Nat.le_add_right _ _))

include hz hm hU hA in
/-- The rows after the tile. -/
theorem pay8_at (r d : Fin 128) : (k0_pay8 q w a ca acc b k v U : FVec Ideal S128x128 .f32) (ix2 r d)
    = acc (ix2 r d) + ∑ c : Fin 128, (if S + c.val < T + r.val then
        ((Real.exp (logSig (score qf kf (T + r.val) (S + c.val))
          + ((∑ j : Fin 128, if c.val < j.val then keep qf kf (T + r.val) (S + j.val) else 0) + A r)) : ℝ) : EReal) else 0) * v (ix2 c d) := by
  pointwise [k0_pay8]
  congr 1
  refine Finset.sum_congr rfl fun c _ => ?_
  rw [hm, pay6_at q k qf kf T S hz, pay7_at q k U w a b qf kf T S hz hm hU, hA, ← EReal.coe_add, ← EReal.coe_add, exp_real]
  by_cases h : S + c.val < T + r.val
  · rw [if_pos h, if_pos h, add_assoc]
    have e : (∑ j : Fin 128, if 128 ≤ c.val ∨ c.val < j.val then keep qf kf (T + r.val) (S + j.val) else 0)
        = ∑ j : Fin 128, if c.val < j.val then keep qf kf (T + r.val) (S + j.val) else 0 :=
      Finset.sum_congr rfl fun j _ => by simp only [show ¬ 128 ≤ c.val from by have := c.isLt; omega, false_or]
    rw [← e]; rfl
  · rw [if_neg h, if_neg h, zero_mul]; rfl

end Tile

/-- The largest running total of totals above minus infinity is above minus infinity. -/
theorem pay3_gt (q k : Vec Ideal S128x128 .bf16) (U : Vec Ideal S256x256 .bf16) (w : IVec S128x128 32) (a b : BitVec 32)
    (ca : FVec Ideal S128x128 .f32) (h : (⊥ : EReal) < (k0_pay9 q w a ca b k U : FVec Ideal S128x128 .f32) (ix2 0 0)) :
    (⊥ : EReal) < k0_pay3 (k0_pay10 q w a ca b k U) := by
  pointwise [k0_pay3, k0_pay10]
  exact lt_of_lt_of_le h (Finset.le_fold_max _ |>.mpr (Or.inr ⟨((0 : Fin 128), (0 : Fin 128)), Finset.mem_univ _, le_rfl⟩))

end Cert.SbaIdeal.Run

end
-- ==== Proof.SbaIdeal.Walk.lean ====
/-
  What the walk returns, over the extended reals and for real queries and keys: every key tile down to the first is taken
  in, since a real running total is above minus infinity, and the rows come out as the attended rows.
-/
module

public import proofs.«01_k».proof.Proof.SbaIdeal.Step

@[expose] public section

set_option maxRecDepth 16384

noncomputable section

namespace Cert.SbaIdeal.Run

open Cert.SbaIdeal Cert.SbaIdeal.Gen Idealize.ShloMosaic Idealize.ShloMosaic.TcCoe Idealize.SL.Sem Cert.Stick

/-- A head's array row by row, its row numbers natural numbers. -/
def rowsOf (X : Vec Ideal S8192x128 .bf16) (s : ℕ) (d : Fin 128) : EReal := X (ix2 ⟨s % 8192, Nat.mod_lt _ (by decide)⟩ d)

theorem queryTile_at (X : Vec Ideal S8192x128 .bf16) (t : Fin k0_t1_loop.trips) (r d : Fin 128) :
    queryTile X t (ix2 r d) = rowsOf X (128 * t.val + r.val) d := by
  have ht : t.val < 64 := lt_of_lt_of_eq t.isLt trips_eq
  unfold queryTile rowsOf
  show X _ = X _
  congr 1
  funext e
  apply Fin.ext
  refine Fin.cases ?_ (fun e => ?_) e
  · show (k0_off1 t) 0 + 1 * r.val = (128 * t.val + r.val) % 8192
    rw [off1_eq]; show 128 * t.val + 1 * r.val = _; omega
  · obtain rfl : e = 0 := Fin.eq_zero e
    show (k0_off1 t) 1 + 1 * d.val = d.val
    rw [off1_eq]; show 0 + 1 * d.val = _; omega

theorem keyTile_at (X : Vec Ideal S8192x128 .bf16) (n : ℕ) (h : n < 64) (c d : Fin 128) :
    keyTile X n h (ix2 c d) = rowsOf X (128 * n + c.val) d := by
  unfold keyTile rowsOf
  show X _ = X _
  congr 1
  funext e
  apply Fin.ext
  refine Fin.cases ?_ (fun e => ?_) e
  · show (k0_off2 (BitVec.ofNat 32 n)) 0 + 1 * c.val = (128 * n + c.val) % 8192
    rw [off2_eq ⟨n, h⟩]; show 128 * n + 1 * c.val = _; omega
  · obtain rfl : e = 0 := Fin.eq_zero e
    show (k0_off2 (BitVec.ofNat 32 n)) 1 + 1 * d.val = d.val
    rw [off2_eq ⟨n, h⟩]; show 0 + 1 * d.val = _; omega

theorem suffixMat_eq (X : Vec Ideal S256x256 .bf16) : suffixMat X = X := View.ld_unit_zero (S := S256x256) (off := ![0, 0]) (by decide) _ X

variable (Q K V : Vec Ideal S8192x128 .bf16) (U : Vec Ideal S256x256 .bf16)
  (hQ : ∀ s d, rowsOf Q s d ≠ ⊤ ∧ rowsOf Q s d ≠ ⊥) (hK : ∀ s d, rowsOf K s d ≠ ⊤ ∧ rowsOf K s d ≠ ⊥)
  (hU : ∀ (j : Fin 128) (c : Fin 256) (h : j.val < 256),
    U (ix2 ⟨j.val, h⟩ c) = if 128 ≤ c.val ∨ c.val < j.val then (1 : EReal) else 0)

include hQ hK in
/-- The scores of query tile `t` and key tile `n`. -/
theorem tile_score (t : Fin k0_t1_loop.trips) (n : ℕ) (h : n < 64) (r c : Fin 128) :
    (k0_pay4 (queryTile Q t) (keyTile K n h) : FVec Ideal S128x128 .f32) (ix2 r c)
      = ((score (rowsOf Q) (rowsOf K) (128 * t.val + r.val) (128 * n + c.val) : ℝ) : EReal) := by
  rw [pay4_at]
  simp only [queryTile_at, keyTile_at]
  exact score_real (hQ _) (hK _)

include hQ hK hU in
/-- The walk with `n` tiles to come, its totals at what the later keys leave, adds the weighted values of the keys before. -/
theorem walk_at (t : Fin k0_t1_loop.trips) (n : ℕ) (hn : n ≤ 64) (cm : Ideal .f32) (ca acc : FVec Ideal S128x128 .f32)
    (hcm : (⊥ : EReal) < cm)
    (hca : ∀ r c : Fin 128, ca (ix2 r c) = ((∑ j ∈ Finset.Ico (128 * n) 8192, keep (rowsOf Q) (rowsOf K) (128 * t.val + r.val) j : ℝ) : EReal))
    (r d : Fin 128) :
    walk (F := Ideal) (queryTile Q t) (row0 t) K V U n cm ca acc (ix2 r d)
      = acc (ix2 r d) + ∑ s ∈ Finset.range (128 * n), weight (rowsOf Q) (rowsOf K) (128 * t.val + r.val) s * rowsOf V s d := by
  induction n generalizing cm ca acc with
  | zero => rw [Nat.mul_zero, Finset.range_zero, Finset.sum_empty, add_zero]; rfl
  | succ n ih =>
    have h : n < 64 := hn
    have hskip : Scalar.cmpf .ogt cm (skipAt (F := Ideal)) = 1#1 := by
      show Ideal.cmp .ogt cm (Named.named κ "skip" 0xC2DC0000#32 : Ideal .f32) = 1#1
      rw [show (Named.named κ "skip" 0xC2DC0000#32 : Ideal .f32) = (⊥ : EReal) from IdealRules.named_const.ideal_named_scalar _ _ _ _ rfl]
      show BitVec.ofBool (decide ((⊥ : EReal) < cm)) = 1#1
      rw [decide_eq_true hcm]; rfl
    have hz := tile_score Q K hQ hK t n h
    have hm := mask_at t n h
    have h9 := pay9_at (queryTile Q t) (keyTile K n h) U k0_pay1 (BitVec.ofNat 32 n) (row0 t) (rowsOf Q) (rowsOf K)
      (128 * t.val) (128 * n) hz hm hU ca _ hca
    have h8 := pay8_at (queryTile Q t) (keyTile K n h) (keyTile V n h) U k0_pay1 (BitVec.ofNat 32 n) (row0 t) (rowsOf Q) (rowsOf K)
      (128 * t.val) (128 * n) hz hm hU ca acc _ hca r d
    rw [walk, if_pos hskip, dif_pos h, suffixMat_eq, ih (by omega) _ _ _ (pay3_gt _ _ _ _ _ _ _ (by rw [h9]; exact EReal.bot_lt_coe _))
      (fun r c => by rw [h9, sum_from_tile _ n h]), h8, sum_upto_tile, add_assoc]
    congr 1
    rw [add_comm]
    congr 1
    refine Finset.sum_congr rfl fun c _ => ?_
    rw [keyTile_at, ← sum_after_in_tile _ n h]; rfl

include hQ hK hU in
/-- The walk of query tile `t` leaves the attended rows. -/
theorem tileOut_at (t : Fin k0_t1_loop.trips) (r d : Fin 128) :
    tileOut (F := Ideal) Q K V U t (ix2 r d) = attend (rowsOf Q) (rowsOf K) (rowsOf V) (128 * t.val + r.val) d := by
  have ht : t.val < 64 := lt_of_lt_of_eq t.isLt trips_eq
  have h0 : (Ideal.ofBits .f32 0x00000000#32 : EReal) = 0 := Ideal.ofBits_zero_f32
  have hz (i : S128x128.Idx) : (k0_pay2 (F := Ideal)) i = (0 : EReal) := h0
  unfold tileOut attend
  rw [walk_at Q K V U hQ hK hU t (t.val + 1) (by omega) _ _ _ (by show (⊥ : EReal) < Ideal.ofBits .f32 0x00000000#32; rw [h0]; exact EReal.bot_lt_zero)
    (fun r c => ?_), hz, zero_add]
  · refine Finset.sum_subset (Finset.range_subset_range.mpr (by omega)) fun s _ hs => ?_
    have : ¬ s < 128 * t.val + r.val := by have := r.isLt; simp only [Finset.mem_range] at hs; omega
    unfold weight
    rw [if_neg this, zero_mul]
  · rw [hz, ← EReal.coe_zero]
    congr 1
    refine (Finset.sum_eq_zero fun s hs => ?_).symm
    have : ¬ s < 128 * t.val + r.val := by have := r.isLt; simp only [Finset.mem_Ico] at hs; omega
    unfold keep
    rw [if_neg this]

include hQ hK hU in
/-- A whole head's block: the attended rows. -/
theorem outBlk_at (t : Fin 8192) (d : Fin 128) :
    outBlk (F := Ideal) Q K V U (ix2 t d) = attend (rowsOf Q) (rowsOf K) (rowsOf V) t.val d := by
  unfold outBlk
  refine (tileOut_at Q K V U hQ hK hU ⟨t.val / 128, _⟩ ⟨t.val % 128, _⟩ d).trans ?_
  rw [show 128 * (t.val / 128) + t.val % 128 = t.val from Nat.div_add_mod _ _]

end Cert.SbaIdeal.Run

end
-- ==== Proof.SbaIdeal.Reference.lean ====
/-
  What the attention's reference computes, over the extended reals and for real queries and keys: its sums from a key on
  are finite sums of real numbers, its weights are the stick-breaking weights, and its result is the attended rows.
-/
module

public import proofs.«01_k».proof.Proof.SbaIdeal.Stick
public import proofs.«01_k».proof.Proof.Gen.SbaRefIdeal.Run
public import proofs.«01_k».proof.Proof.Gen.Pre_sba_finite
public import Idealize.ShloMosaic.Lib.Pipeline.ValueKit

@[expose] public section

set_option maxRecDepth 16384

noncomputable section

namespace Cert.SbaRefIdeal.Run

open Cert.SbaRefIdeal Cert.SbaRefIdeal.Gen Idealize.ShloMosaic Idealize.ShloMosaic.TcCoe Idealize.SL.Sem Cert.Stick

/-! ## The result -/

/-- Head `h`'s queries: the columns from `128 h` on. -/
def headQ (x : FVec Ideal S8192x6144 .bf16) (h : Fin 16) (t : ℕ) (d : Fin 128) : EReal :=
  x (ix2 ⟨t % 8192, Nat.mod_lt _ (by decide)⟩ ⟨h.val * 128 + d.val, by omega⟩)
/-- Head `h`'s keys: the columns from `2048 + 128 h` on. -/
def headK (x : FVec Ideal S8192x6144 .bf16) (h : Fin 16) (t : ℕ) (d : Fin 128) : EReal :=
  x (ix2 ⟨t % 8192, Nat.mod_lt _ (by decide)⟩ ⟨2048 + (h.val * 128 + d.val), by omega⟩)
/-- Head `h`'s values: the columns from `4096 + 128 h` on. -/
def headV (x : FVec Ideal S8192x6144 .bf16) (h : Fin 16) (t : ℕ) (d : Fin 128) : EReal :=
  x (ix2 ⟨t % 8192, Nat.mod_lt _ (by decide)⟩ ⟨4096 + (h.val * 128 + d.val), by omega⟩)

/-- The attended rows of all heads, the heads side by side. -/
def attended (x : FVec Ideal S8192x6144 .bf16) : FVec Ideal S8192x2048 .f32 := fun i =>
  have h1 : (i 1).val < 2048 := (i 1).isLt
  attend (headQ x ⟨(i 1).val / 128, by omega⟩) (headK x ⟨(i 1).val / 128, by omega⟩) (headV x ⟨(i 1).val / 128, by omega⟩)
    (i 0).val ⟨(i 1).val % 128, Nat.mod_lt _ (by decide)⟩

/-! ## The precondition -/

/-- Under the precondition every query and key entry is a real number. -/
theorem real_of_pre (x : FVec Ideal S8192x6144 .bf16) (h : Cert.Pre_sba_finite.fn (F := Ideal) x = fun _ => 1#1)
    (t : Fin 8192) (c : Fin 4096) (hc : c.val < 6144) : (x (ix2 t ⟨c.val, hc⟩) : EReal) ≠ ⊤ ∧ (x (ix2 t ⟨c.val, hc⟩) : EReal) ≠ ⊥ := by
  have h := congrFun h (ix2 t c)
  pointwise [Cert.Pre_sba_finite.fn] at h
  have htop : (Ideal.ofBits FTy.f32 2139095040#32 : EReal) = ⊤ := by simp [Ideal.ofBits, Ideal.ieee]
  rw [htop] at h
  have h' : max (x (ix2 t ⟨c.val, hc⟩) : EReal) (-(x (ix2 t ⟨c.val, hc⟩) : EReal)) < ⊤ := by
    by_contra hn
    change BitVec.ofBool (decide (max (x (ix2 t ⟨c.val, hc⟩) : EReal) (-(x (ix2 t ⟨c.val, hc⟩) : EReal)) < ⊤)) = 1#1 at h
    rw [decide_eq_false hn] at h
    exact absurd h (by decide)
  refine ⟨fun e => ?_, fun e => ?_⟩ <;> rw [e] at h' <;> simp at h'

theorem headQ_real (x : FVec Ideal S8192x6144 .bf16) (hx : Cert.Pre_sba_finite.fn (F := Ideal) x = fun _ => 1#1) (h : Fin 16)
    (t : ℕ) (d : Fin 128) : headQ x h t d ≠ ⊤ ∧ headQ x h t d ≠ ⊥ :=
  real_of_pre x hx _ ⟨h.val * 128 + d.val, by omega⟩ _
theorem headK_real (x : FVec Ideal S8192x6144 .bf16) (hx : Cert.Pre_sba_finite.fn (F := Ideal) x = fun _ => 1#1) (h : Fin 16)
    (t : ℕ) (d : Fin 128) : headK x h t d ≠ ⊤ ∧ headK x h t d ≠ ⊥ :=
  real_of_pre x hx _ ⟨2048 + (h.val * 128 + d.val), by omega⟩ _

/-! ## The sums from a key on -/

/-- Adding up a list from a starting value. -/
theorem foldl_add {α : Type*} (g : α → EReal) (l : List α) (v : EReal) : l.foldl (fun r n => r + g n) v = v + (l.map g).sum := by
  induction l generalizing v with
  | nil => simp
  | cons a l ih => rw [List.foldl_cons, ih, List.map_cons, List.sum_cons, add_assoc]

/-- A window sum over the extended reals: the initial value, plus what the window's positions show — an entry where the
    position lies in the operand, the initial value elsewhere. -/
theorem window_sum {s t u : Shape} (window strides lo hi : Fin s.rank → ℕ) (x : FVec Ideal s .f32) (init : FVec Ideal u .f32)
    (h : s.ReduceWindows window strides lo hi t) (hu : 0 < u.numel) (j : t.Idx) (f : (⟨s.rank, window⟩ : Shape).Idx → EReal)
    (hf : ∀ w, (hin : ∀ a, lo a ≤ (j (a.cast h.1.symm)).val * strides a + (w a).val
          ∧ (j (a.cast h.1.symm)).val * strides a + (w a).val - lo a < s.size a) →
        f w = x (fun a => ⟨(j (a.cast h.1.symm)).val * strides a + (w a).val - lo a, (hin a).2⟩))
    (hf' : ∀ w, (¬ ∀ a, lo a ≤ (j (a.cast h.1.symm)).val * strides a + (w a).val
          ∧ (j (a.cast h.1.symm)).val * strides a + (w a).val - lo a < s.size a) → f w = init (Shape.Idx.first hu)) :
    (Host.reduceWindowAdd window strides lo hi x init h hu j : EReal) = init (Shape.Idx.first hu) + ∑ w, f w := by
  refine (foldl_add _ _ _).trans ?_
  rw [← Fin.sum_univ_def]
  congr 1
  refine Eq.trans (Finset.sum_congr rfl fun n _ => ?_) (Equiv.sum_comp (M := EReal) (⟨s.rank, window⟩ : Shape).rowMajor.symm f)
  by_cases hc : ∀ a, lo a ≤ (j (a.cast h.1.symm)).val * strides a + (((⟨s.rank, window⟩ : Shape).rowMajor.symm n) a).val
      ∧ (j (a.cast h.1.symm)).val * strides a + (((⟨s.rank, window⟩ : Shape).rowMajor.symm n) a).val - lo a < s.size a
  · exact (dif_pos hc).trans (hf _ hc).symm
  · exact (dif_neg hc).trans (hf' _ hc).symm

/-- The index set of the window: 8192 positions along the last axis. -/
def windowEquiv : Fin 8192 ≃ (⟨3, ![1, 1, 8192]⟩ : Shape).Idx where
  toFun b := ix3 (n0 := 1) (n1 := 1) (n2 := 8192) 0 0 b
  invFun w := w 2
  left_inv _ := rfl
  right_inv w := by
    funext b
    have h1 : (w 0).val < 1 := (w 0).isLt
    have h2 : (w 1).val < 1 := (w 1).isLt
    apply Fin.ext
    fin_cases b
    · show 0 = (w 0).val; omega
    · show 0 = (w 1).val; omega
    · rfl

/-- The window sum of the reversed cumulative sum: the entries of the row from the given one on. -/
theorem sums_from (X : FVec Ideal S16x8192x8192 .f32) (init : FVec Ideal S_ .f32) (h0 : ∀ i, init i = (0 : EReal))
    (h : S16x8192x8192.ReduceWindows ![1, 1, 8192] ![1, 1, 1] ![0, 0, 0] ![0, 0, 8191] S16x8192x8192) (hu : 0 < S_.numel)
    (a : Fin 16) (t s : Fin 8192) :
    Host.reduceWindowAdd ![1, 1, 8192] ![1, 1, 1] ![0, 0, 0] ![0, 0, 8191] X init h hu (ix3 a t s)
      = ∑ j ∈ Finset.Ico s.val 8192, (X (ix3 a t ⟨j % 8192, Nat.mod_lt _ (by decide)⟩) : EReal) := by
  have hs := s.isLt
  refine (window_sum _ _ _ _ X init h hu (ix3 a t s)
    (fun w => if s.val + (w 2).val < 8192 then (X (ix3 a t ⟨(s.val + (w 2).val) % 8192, Nat.mod_lt _ (by decide)⟩) : EReal) else 0)
    (fun w hin => ?_) (fun w hin => ?_)).trans ?_
  · have h0 : (w 0).val < 1 := (w 0).isLt
    have h1 : (w 1).val < 1 := (w 1).isLt
    have h2 : s.val * 1 + (w 2).val - 0 < 8192 := (hin 2).2
    rw [if_pos (by omega)]
    congr 1
    funext b
    apply Fin.ext
    fin_cases b
    · show a.val = a.val * 1 + (w 0).val - 0; omega
    · show t.val = t.val * 1 + (w 1).val - 0; omega
    · show (s.val + (w 2).val) % 8192 = s.val * 1 + (w 2).val - 0; omega
  · rw [h0]
    refine if_neg fun hlt => hin fun b => ?_
    have h0 : (w 0).val < 1 := (w 0).isLt
    have h1 : (w 1).val < 1 := (w 1).isLt
    have ha := a.isLt
    have ht := t.isLt
    fin_cases b
    · exact ⟨Nat.zero_le _, show a.val * 1 + (w 0).val - 0 < 16 by omega⟩
    · exact ⟨Nat.zero_le _, show t.val * 1 + (w 1).val - 0 < 8192 by omega⟩
    · exact ⟨Nat.zero_le _, show s.val * 1 + (w 2).val - 0 < 8192 by omega⟩
  · rw [h0, zero_add]
    refine (Equiv.sum_comp (M := EReal) windowEquiv _).symm.trans ?_
    rw [Finset.sum_Ico_eq_sum_range,
      show ∑ n ∈ Finset.range (8192 - s.val), (X (ix3 a t ⟨(s.val + n) % 8192, Nat.mod_lt _ (by decide)⟩) : EReal)
        = ∑ n ∈ Finset.range 8192, if s.val + n < 8192 then (X (ix3 a t ⟨(s.val + n) % 8192, Nat.mod_lt _ (by decide)⟩) : EReal) else 0 by
        rw [← Finset.sum_filter]
        refine Finset.sum_congr ?_ fun _ _ => rfl
        ext n; simp only [Finset.mem_filter, Finset.mem_range]; omega,
      Finset.sum_range]
    rfl

/-! ## The reference's entries -/

/-- The signed comparison of two row numbers. -/
theorem before_rows (a b : ℕ) (ha : a < 8192) (hb : b < 8192) :
    IntOp.cmpi CmpIPredicate.slt (BitVec.ofNat 32 a) (BitVec.ofNat 32 b) = if a < b then 1#1 else 0#1 := by
  have h (x : ℕ) (hx : x < 8192) : (BitVec.ofNat 32 x).toInt = (x : Int) := by
    simp only [BitVec.toInt_eq_toNat_bmod, BitVec.toNat_ofNat, Int.bmod]; omega
  show BitVec.ofBool (BitVec.slt _ _) = _
  rw [BitVec.slt, h _ ha, h _ hb]
  by_cases hlt : a < b
  · rw [if_pos hlt, decide_eq_true (by omega)]; rfl
  · rw [if_neg hlt, decide_eq_false (by omega)]; rfl

/-- A log-sigmoid the reference takes as minus a softplus. -/
theorem minus_softplus (y r : ℝ) (h : -(max y 0 + Real.log (1 + Real.exp (-|y|))) = r) :
    -(if (y : EReal) ≠ (y : EReal) then (y : EReal)
      else max (y : EReal) 0 + Ideal.log1p (Ideal.exp (-(FloatOps.absf (F := Ideal) (φ := .f32) (y : EReal) : EReal)))) = (r : EReal) := by
  rw [if_neg (not_not.mpr rfl)]
  have e := softplus_real y
  rw [sub_zero] at e
  refine (congrArg (- ·) e).trans ?_
  rw [← EReal.coe_neg, h]

/-- The quotient by the root of 128 is the product with `1 / √128`. -/
theorem div_root (y : EReal) : Ideal.div y (Ideal.sqrt (Ideal.ofBits .f32 0x43000000#32)) = y * (scaleAt : EReal) := by
  have h : (Ideal.ofBits .f32 0x43000000#32 : EReal) = ((128 : ℝ) : EReal) := by
    simp [Ideal.ofBits, Ideal.ieee, -EReal.coe_mul]; norm_num
  rw [h, Ideal.sqrt_coe, if_neg (by norm_num), Ideal.div_coe (Real.sqrt_pos.mpr (by norm_num)).ne', one_div]
  rfl

/-- The reference's result: the attended rows, where the queries and keys are real. -/
theorem ref_at (x : FVec Ideal S8192x6144 .bf16) (hx : Cert.Pre_sba_finite.fn (F := Ideal) x = fun _ => 1#1)
    (m : (ℓ : Loc nD τ sig) → Buf (Elt Ideal) ℓ) (c : Dev nD) (hm : m ((c.tc : Thread nD τ).loc main_arg0) = x) :
    Value.res_main_v32 (F := Ideal) m c = attended x := by
  funext i
  obtain ⟨t, e, rfl⟩ : ∃ (t : Fin 8192) (e : Fin 2048), i = ix2 t e := ⟨i 0, i 1, ValueIdx.eq_ix2 i⟩
  unfold Value.res_main_v32
  rw [hm]
  pointwise
  have h0 (j : S_.Idx) : (broadcastInDim S_ ![] bcast_S_S_ (constant S_ .f32 0x00000000#32) : FVec Ideal S_ .f32) j = (0 : EReal) := by
    pointwise
  simp only [sums_from _ _ h0]
  pointwise
  simp only [div_root]
  have he := e.isLt
  have ht := t.isLt
  have hsc (s : Fin 8192) :
      (∑ d : Fin 128, x (ix2 t ⟨e.val / 128 * 128 + d.val, by omega⟩) * x (ix2 s ⟨2048 + (e.val / 128 * 128 + d.val), by omega⟩) : EReal)
          * (scaleAt : EReal)
        = ((score (headQ x ⟨e.val / 128, by omega⟩) (headK x ⟨e.val / 128, by omega⟩) t.val s.val : ℝ) : EReal) := by
    refine Eq.trans ?_ (score_real (fun d => headQ_real x hx ⟨e.val / 128, by omega⟩ t.val d) (fun d => headK_real x hx ⟨e.val / 128, by omega⟩ s.val d))
    unfold headQ headK
    simp only [Nat.mod_eq_of_lt t.isLt, Nat.mod_eq_of_lt s.isLt]
  have hsc' (j : ℕ) (p : Fin 128 → j % 8192 < 8192) :
      (∑ d : Fin 128, x (ix2 t ⟨e.val / 128 * 128 + d.val, by omega⟩) * x (ix2 ⟨j % 8192, p d⟩ ⟨2048 + (e.val / 128 * 128 + d.val), by omega⟩) : EReal)
          * (scaleAt : EReal)
        = ((score (headQ x ⟨e.val / 128, by omega⟩) (headK x ⟨e.val / 128, by omega⟩) t.val (j % 8192) : ℝ) : EReal) :=
    hsc ⟨j % 8192, p 0⟩
  have hz : (id (constant (F := Ideal) S_ FTy.f32 0#32) ix0 : EReal) = 0 := by rw [id_eq]; pointwise
  have hb : (id (constant (F := Ideal) S_ FTy.f32 4286578688#32) ix0 : EReal) = ⊥ := by
    rw [id_eq]
    pointwise
    simp [Ideal.ofBits, Ideal.ieee]
  simp only [hsc, hsc', neg_neg, ← EReal.coe_neg, minus_softplus _ _ (neg_softplus_neg _), minus_softplus _ _ (neg_softplus _), hz, hb]
  show _ = attend (headQ x ⟨e.val / 128, by omega⟩) (headK x ⟨e.val / 128, by omega⟩) (headV x ⟨e.val / 128, by omega⟩) t.val ⟨e.val % 128, Nat.mod_lt _ (by decide)⟩
  generalize hQ : headQ x ⟨e.val / 128, by omega⟩ = q
  generalize hK : headK x ⟨e.val / 128, by omega⟩ = k
  have hk (j : ℕ) (hj : j < 8192) :
      (Scalar.select (IntOp.cmpi CmpIPredicate.slt (BitVec.ofNat 32 j) (BitVec.ofNat 32 t.val))
        ((logSig (score q k t.val j) - score q k t.val j : ℝ) : EReal) 0) = ((keep q k t.val j : ℝ) : EReal) := by
    rw [before_rows _ _ hj ht]
    unfold keep
    by_cases hlt : j < t.val
    · rw [if_pos hlt, if_pos hlt, ValueIdx.select_one]
    · rw [if_neg hlt, if_neg hlt, ValueIdx.select_zero, EReal.coe_zero]
  unfold attend
  rw [Finset.sum_range]
  refine Finset.sum_congr rfl fun s _ => ?_
  congr 1
  · have hsum : (∑ j ∈ Finset.Ico s.val 8192,
        (Scalar.select (IntOp.cmpi CmpIPredicate.slt (BitVec.ofNat 32 (j % 8192)) (BitVec.ofNat 32 t.val))
          ((logSig (score q k t.val (j % 8192)) - score q k t.val (j % 8192) : ℝ) : EReal) 0))
        = ((∑ j ∈ Finset.Ico s.val 8192, keep q k t.val j : ℝ) : EReal) := by
      rw [coe_sum]
      refine Finset.sum_congr rfl fun j hj => ?_
      rw [Nat.mod_eq_of_lt (Finset.mem_Ico.mp hj).2]
      exact hk j (Finset.mem_Ico.mp hj).2
    rw [hsum, hk s.val s.isLt, ← EReal.coe_sub, ← EReal.coe_add, before_rows _ _ s.isLt ht,
      Finset.sum_eq_sum_Ico_succ_bot s.isLt, add_sub_cancel_left]
    unfold weight
    by_cases hlt : s.val < t.val
    · rw [if_pos hlt, if_pos hlt, ValueIdx.select_one]; rfl
    · rw [if_neg hlt, if_neg hlt, ValueIdx.select_zero]; rfl
  · unfold headV
    congr 1
    funext b
    apply Fin.ext
    fin_cases b
    · exact (Nat.mod_eq_of_lt s.isLt).symm
    · show 4096 + e.val = 4096 + (e.val / 128 * 128 + e.val % 128)
      omega

end Cert.SbaRefIdeal.Run

end
-- ==== Proof.SbaIdeal.Value.lean ====
/-
The stick-breaking attention: kernel and reference compute one function of the projected activations, wherever the
projected queries and keys are finite.
-/
module

public import proofs.«01_k».proof.Proof.SbaIdeal.Frame
public import proofs.«01_k».proof.Proof.SbaIdeal.Suffix
public import proofs.«01_k».proof.Proof.SbaIdeal.Walk
public import proofs.«01_k».proof.Proof.SbaIdeal.Reference
public import proofs.«01_k».proof.Defs

@[expose] public section

set_option maxRecDepth 16384

noncomputable section

namespace Cert.SbaIdeal.Run

open Cert.SbaIdeal Cert.SbaIdeal.Gen Idealize.ShloMosaic Idealize.ShloMosaic.TcCoe Idealize.SL.Sem Cert.Stick
open Cert.SbaRefIdeal.Run (headQ headK headV attended headQ_real headK_real)

variable (m : (ℓ : Loc nD τ sig) → Buf (Elt Ideal) ℓ) (ρ : Dev nD → PrngReg)

/-! ## The blocks -/

/-- Head `t` reads the `t`th column block of the queries, -/
theorem q_at : ∀ t : Fin (cfg0 (F := Ideal)).N, win0_0.index t = ![0, t.val] := (by decide +kernel : ∀ t : Fin grid0.N, _)
/-- of the keys, -/
theorem k_at : ∀ t : Fin (cfg0 (F := Ideal)).N, win0_1.index t = ![0, 16 + t.val] := (by decide +kernel : ∀ t : Fin grid0.N, _)
/-- and of the values, -/
theorem v_at : ∀ t : Fin (cfg0 (F := Ideal)).N, win0_2.index t = ![0, 32 + t.val] := (by decide +kernel : ∀ t : Fin grid0.N, _)
/-- and the whole matrix of the suffix sums, -/
theorem u_at : ∀ t : Fin (cfg0 (F := Ideal)).N, win0_3.index t = ![0, 0] := (by decide +kernel : ∀ t : Fin grid0.N, _)
/-- and writes the `t`th column block of the result. -/
theorem o_at : ∀ t : Fin (cfg0 (F := Ideal)).N, win0_4.index t = ![0, t.val] := (by decide +kernel : ∀ t : Fin grid0.N, _)

/-- A head's query block holds that head's queries, -/
theorem rows_q (c : Dev nD) (t : Fin (cfg0 (F := Ideal)).N) :
    rowsOf (iblk m c 0 t) = headQ (m ((c : Thread nD τ).loc main_arg0)) ⟨t.val, t.isLt⟩ := by
  funext s d
  show V m c main_arg0 ((win0_0.blk t).view.emb (ix2 ⟨s % 8192, _⟩ d)) = _
  rw [V_main_arg0]
  unfold headQ
  blk_point [q_at t]
/-- its key block that head's keys, -/
theorem rows_k (c : Dev nD) (t : Fin (cfg0 (F := Ideal)).N) :
    rowsOf (iblk m c 1 t) = headK (m ((c : Thread nD τ).loc main_arg0)) ⟨t.val, t.isLt⟩ := by
  funext s d
  show V m c main_arg0 ((win0_1.blk t).view.emb (ix2 ⟨s % 8192, _⟩ d)) = _
  rw [V_main_arg0]
  unfold headK
  blk_point [k_at t]
/-- and its value block that head's values. -/
theorem rows_v (c : Dev nD) (t : Fin (cfg0 (F := Ideal)).N) :
    rowsOf (iblk m c 2 t) = headV (m ((c : Thread nD τ).loc main_arg0)) ⟨t.val, t.isLt⟩ := by
  funext s d
  show V m c main_arg0 ((win0_2.blk t).view.emb (ix2 ⟨s % 8192, _⟩ d)) = _
  rw [V_main_arg0]
  unfold headV
  blk_point [v_at t]

/-- The constant's entries, by their row-major number. -/
theorem lit0_eq : ∀ n : Fin 65536, lit0 n = lit0t n.val := fun ⟨_, _⟩ => rfl

/-- The matrix of the suffix sums: its upper rows hold a one where the column is past the row's, or a column of ones. -/
theorem suffix_block (c : Dev nD) (t : Fin (cfg0 (F := Ideal)).N) (j : Fin 128) (k : Fin 256) (h : j.val < 256) :
    (iblk m c 3 t : Vec Ideal S256x256 .bf16) (ix2 ⟨j.val, h⟩ k) = if 128 ≤ k.val ∨ k.val < j.val then (1 : EReal) else 0 := by
  have e : (iblk m c 3 t : Vec Ideal S256x256 .bf16) (ix2 ⟨j.val, h⟩ k) = V m c main_cst (ix2 ⟨j.val, h⟩ k) := by
    show V m c main_cst ((win0_3.blk t).view.emb (ix2 ⟨j.val, h⟩ k)) = _
    blk_point [u_at t]
  rw [e, V_main_cst]
  have hr : (S256x256.rowMajor (ix2 ⟨j.val, h⟩ k)).val = 256 * j.val + k.val :=
    (Shape.rowMajor_val_two (d := ![256, 256]) (ix2 ⟨j.val, h⟩ k)).trans (by show j.val * 256 + k.val = _; omega)
  refine (congrArg (Ideal.ofBits .bf16) ((lit0_eq _).trans (congrArg lit0t hr))).trans ?_
  by_cases hk : 128 ≤ k.val
  · rw [if_pos (Or.inl hk), show 256 * j.val + k.val = 256 * j.val + (128 + (⟨k.val - 128, by omega⟩ : Fin 128).val) from by
      show _ = 256 * j.val + (128 + (k.val - 128)); omega, suffix_right]
    exact Ideal.ofBits_one_bf16
  · have hl := suffix_left j ⟨k.val, by omega⟩
    simp only at hl
    rw [hl]
    by_cases hlt : k.val < j.val
    · rw [if_pos hlt, if_pos (Or.inr hlt)]
      exact Ideal.ofBits_one_bf16
    · rw [if_neg hlt, if_neg (by omega)]
      exact Ideal.ofBits_zero_bf16

/-- The attended rows at an index given by its head, its row and its lane. -/
theorem attended_at (x : FVec Ideal S8192x6144 .bf16) (i : S8192x2048.Idx) (h : Fin 16) (s : Fin 8192) (d : Fin 128)
    (h0 : (i 0).val = s.val) (h1 : (i 1).val = h.val * 128 + d.val) :
    attended x i = attend (headQ x h) (headK x h) (headV x h) s.val d := by
  have hi : (i 1).val < 2048 := (i 1).isLt
  have hd := d.isLt
  have e1 : (⟨(i 1).val / 128, by omega⟩ : Fin 16) = h := Fin.ext (by show (i 1).val / 128 = h.val; omega)
  have e2 : (⟨(i 1).val % 128, Nat.mod_lt _ (by decide)⟩ : Fin 128) = d := Fin.ext (by show (i 1).val % 128 = d.val; omega)
  show attend (headQ x ⟨(i 1).val / 128, _⟩) (headK x ⟨(i 1).val / 128, _⟩) (headV x ⟨(i 1).val / 128, _⟩) (i 0).val ⟨(i 1).val % 128, _⟩ = _
  rw [e1, e2, h0]

/-- The array the kernel leaves: the attended rows. -/
theorem kernel_value (c : Dev nD)
    (hx : Cert.Pre_sba_finite.fn (F := Ideal) (m ((c : Thread nD τ).loc main_arg0)) = fun _ => 1#1) :
    (dats m 0 c).arrAt 4 (cfg0 (F := Ideal)).N = attended (m ((c : Thread nD τ).loc main_arg0)) := by
  refine (dats m 0 c).arrAt_eq_of_covers 4 _ (by decide +kernel) fun t _ y => ?_
  blk_simp
  rw [after_o]
  unfold outsAt
  obtain ⟨s, d, rfl⟩ : ∃ (s : Fin 8192) (d : Fin 128), y = ix2 s d := ⟨y 0, y 1, ValueIdx.eq_ix2 y⟩
  refine (outBlk_at _ _ _ _ (fun s d => ?_) (fun s d => ?_) (suffix_block m c t) s d).trans ?_
  · rw [rows_q]; exact headQ_real _ hx _ _ _
  · rw [rows_k]; exact headK_real _ hx _ _ _
  rw [rows_q, rows_k, rows_v]
  have ht : t.val < 16 := t.isLt
  have hs := s.isLt
  have hd := d.isLt
  have e0 : ((((win0_4).blk t).view.emb (ix2 s d)) 0).val = s.val := by
    blk_point [o_at t]
  have e1 : ((((win0_4).blk t).view.emb (ix2 s d)) 1).val = t.val * 128 + d.val := by
    blk_point [o_at t]
  exact (attended_at _ _ ⟨t.val, t.isLt⟩ s d e0 e1).symm

/-- From equal arguments, finite in their queries and keys, the two programs leave equal results. -/
theorem algebraic : Cert.algebraic_SbaIdeal_SbaRefIdeal_pre_sba_finite := by
  intro m ρ m' ρ' hpre hag
  refine ⟨fun c => attended (m ((c : Thread nD τ).loc main_arg0)),
    (θ_run _ _ _).mono (fun r h c => ⟨(h.1 c).1.trans (kernel_value m c (hpre c)), (h.1 c).2⟩) (run_named m ρ),
    (θ_run _ _ _).mono (fun r h c => ⟨(h c).1.trans ?_, (h c).2⟩) (Cert.SbaRefIdeal.Value.run m' ρ')⟩
  exact Cert.SbaRefIdeal.Run.ref_at _ (hpre c) m' c (hag c)

end Cert.SbaIdeal.Run

end
-- ==== Proof.Mma.lean ====
/-
The first projection, `proj_a = bf16(h · w_in[1][:, :6144])`: the tiled kernel and the reference compute one function of
the two arguments.
-/
module

public import proofs.«01_k».proof.Proof.Gen.MmaIdeal.Value
public import proofs.«01_k».proof.Proof.Gen.MmaRefIdeal.Run
public import proofs.«01_k».proof.Defs
public import Idealize.ShloMosaic.Lib.Pipeline.ValueKit

@[expose] public section

set_option maxRecDepth 16384

noncomputable section

namespace Cert.MmaIdeal.Run

open Cert.MmaIdeal Cert.MmaIdeal.Gen Idealize.ShloMosaic Idealize.ShloMosaic.TcCoe Idealize.SL.Sem

/-- The product of the activations with the first 6144 columns of the second layer's weights. -/
def product (h : FVec Ideal S8192x4096 .bf16) (w : FVec Ideal S4x4096x14336 .f32) : FVec Ideal S8192x6144 .bf16 :=
  fun i => ∑ k : Fin 4096, h (ix2 (i 0) k) * w (ix3 1 k ⟨(i 1).val, lt_trans (i 1).isLt (by decide)⟩)

variable (m : (ℓ : Loc nD τ sig) → Buf (Elt Ideal) ℓ) (ρ : Dev nD → PrngReg)

/-- Grid point `t` reads row block `t % 8` of the activations. -/
theorem rows_at : ∀ t : Fin cfg0.N, win0_0.index t = ![(grid0.coords t 1).val, 0] :=
  (by decide +kernel : ∀ t : Fin grid0.N, _)
/-- It reads a column block of the weights. -/
theorem cols_at : ∀ t : Fin cfg0.N, win0_1.index t = ![0, (grid0.coords t 0).val] :=
  (by decide +kernel : ∀ t : Fin grid0.N, _)
/-- It writes the block where the two meet. -/
theorem out_at : ∀ t : Fin cfg0.N, win0_2.index t = ![(grid0.coords t 1).val, (grid0.coords t 0).val] :=
  (by decide +kernel : ∀ t : Fin grid0.N, _)

/-- The array the kernel leaves is the product. -/
theorem kernel_value (c : Dev nD) :
    (dats m 0 c).arrAt 2 cfg0.N = product (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, product]
  blk_point [iblk, V, rows_at t, cols_at t, out_at t]

/-- The reference's expression is the same product. -/
theorem reference_value (h : FVec Ideal S8192x4096 .bf16) (w : FVec Ideal S4x4096x14336 .f32) :
    (truncf .bf16 (extractStridedSlice Cert.MmaRefIdeal.S8192x6144 ![0, 0] (Host.dotGeneral Cert.MmaRefIdeal.dot_S8192x4096_S4096x14336_S8192x14336_1_0_0_1_n_n none
      (extf .f32 h Cert.MmaRefIdeal.Gen.bitsLt_bf16_f32) (shapeCast _ (extractStridedSlice Cert.MmaRefIdeal.S1x4096x14336 ![1, 0, 0] w
        Cert.MmaRefIdeal.Gen.slices_S4x4096x14336_S1x4096x14336_1_0_0) Cert.MmaRefIdeal.Gen.shapeCasts_S1x4096x14336_S4096x14336))
      Cert.MmaRefIdeal.Gen.slices_S8192x14336_S8192x6144_0_0) Cert.MmaRefIdeal.Gen.bitsLt_bf16_f32 : FVec Ideal S8192x6144 .bf16) = product h w := by
  funext i
  pointwise [product]

/-- From equal arguments the two programs leave equal results. -/
theorem algebraic : Cert.algebraic_MmaIdeal_MmaRefIdeal := by
  intro m ρ m' ρ' _ hag
  refine ⟨fun c => product (m ((c : Thread nD τ).loc main_arg0)) (m ((c : Thread nD τ).loc main_arg1)),
    (θ_run _ _ _).mono (fun r h c => ⟨(h c).1.trans (kernel_value m c), (h c).2⟩) (Value.run_blocks m ρ),
    (θ_run _ _ _).mono (fun r h c => ⟨(h c).1.trans ?_, (h c).2⟩) (Cert.MmaRefIdeal.Value.run m' ρ')⟩
  rw [(hag c).1, (hag c).2]
  exact reference_value _ _

end Cert.MmaIdeal.Run

end
-- ==== Proof.Mmb.lean ====
/-
The second projection, `proj_b = h · w_in[1][:, 6144:]` in f32: the tiled kernel and the reference compute one function of
the two arguments.
-/
module

public import proofs.«01_k».proof.Proof.Gen.MmbIdeal.Value
public import proofs.«01_k».proof.Proof.Gen.MmbRefIdeal.Run
public import proofs.«01_k».proof.Defs
public import Idealize.ShloMosaic.Lib.Pipeline.ValueKit

@[expose] public section

set_option maxRecDepth 16384

noncomputable section

namespace Cert.MmbIdeal.Run

open Cert.MmbIdeal Cert.MmbIdeal.Gen Idealize.ShloMosaic Idealize.ShloMosaic.TcCoe Idealize.SL.Sem

/-- The product of the activations with the last 8192 columns of the second layer's weights. -/
def product (h : FVec Ideal S8192x4096 .bf16) (w : FVec Ideal S4x4096x14336 .f32) : FVec Ideal S8192x8192 .f32 :=
  fun i => ∑ k : Fin 4096, h (ix2 (i 0) k) * w (ix3 1 k ⟨6144 + (i 1).val, by have h : (i 1).val < 8192 := (i 1).isLt; omega⟩)

variable (m : (ℓ : Loc nD τ sig) → Buf (Elt Ideal) ℓ) (ρ : Dev nD → PrngReg)

/-- Grid point `t` reads row block `t % 8` of the activations. -/
theorem rows_at : ∀ t : Fin cfg0.N, win0_0.index t = ![(grid0.coords t 1).val, 0] :=
  (by decide +kernel : ∀ t : Fin grid0.N, _)
/-- It reads a column block of the weights, past the six that are the first projection's. -/
theorem cols_at : ∀ t : Fin cfg0.N, win0_1.index t = ![0, (grid0.coords t 0).val + 6] :=
  (by decide +kernel : ∀ t : Fin grid0.N, _)
/-- It writes the block where the two meet. -/
theorem out_at : ∀ t : Fin cfg0.N, win0_2.index t = ![(grid0.coords t 1).val, (grid0.coords t 0).val] :=
  (by decide +kernel : ∀ t : Fin grid0.N, _)

/-- The array the kernel leaves is the product. -/
theorem kernel_value (c : Dev nD) :
    (dats m 0 c).arrAt 2 cfg0.N = product (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, product]
  blk_point [iblk, V, rows_at t, cols_at t, out_at t]

/-- The reference's expression is the same product. -/
theorem reference_value (h : FVec Ideal S8192x4096 .bf16) (w : FVec Ideal S4x4096x14336 .f32) :
    (extractStridedSlice Cert.MmbRefIdeal.S8192x8192 ![0, 6144] (Host.dotGeneral Cert.MmbRefIdeal.dot_S8192x4096_S4096x14336_S8192x14336_1_0_0_1_n_n none
      (extf .f32 h Cert.MmbRefIdeal.Gen.bitsLt_bf16_f32) (shapeCast _ (extractStridedSlice Cert.MmbRefIdeal.S1x4096x14336 ![1, 0, 0] w
        Cert.MmbRefIdeal.Gen.slices_S4x4096x14336_S1x4096x14336_1_0_0) Cert.MmbRefIdeal.Gen.shapeCasts_S1x4096x14336_S4096x14336))
      Cert.MmbRefIdeal.Gen.slices_S8192x14336_S8192x8192_0_6144 : FVec Ideal S8192x8192 .f32) = product h w := by
  funext i
  pointwise [product]

/-- From equal arguments the two programs leave equal results. -/
theorem algebraic : Cert.algebraic_MmbIdeal_MmbRefIdeal := by
  intro m ρ m' ρ' _ hag
  refine ⟨fun c => product (m ((c : Thread nD τ).loc main_arg0)) (m ((c : Thread nD τ).loc main_arg1)),
    (θ_run _ _ _).mono (fun r h c => ⟨(h c).1.trans (kernel_value m c), (h c).2⟩) (Value.run_blocks m ρ),
    (θ_run _ _ _).mono (fun r h c => ⟨(h c).1.trans ?_, (h c).2⟩) (Cert.MmbRefIdeal.Value.run m' ρ')⟩
  rw [(hag c).1, (hag c).2]
  exact reference_value _ _

end Cert.MmbIdeal.Run

end
-- ==== Proof.Mmo.lean ====
/-
The output projection, `y = [mixed_a, mixed_b] · w_out[1]` in f32: the tiled kernel and the reference compute one function of
the two arguments.
-/
module

public import proofs.«01_k».proof.Proof.Gen.MmoIdeal.Value
public import proofs.«01_k».proof.Proof.Gen.MmoRefIdeal.Run
public import proofs.«01_k».proof.Defs
public import Idealize.ShloMosaic.Lib.Pipeline.ValueKit

@[expose] public section

set_option maxRecDepth 16384

noncomputable section

namespace Cert.MmoIdeal.Run

open Cert.MmoIdeal Cert.MmoIdeal.Gen Idealize.ShloMosaic Idealize.ShloMosaic.TcCoe Idealize.SL.Sem

/-- The product of the two halves, side by side, with the second layer's weights. -/
def product (a b : FVec Ideal S8192x2048 .bf16) (w : FVec Ideal S4x4096x4096 .f32) : FVec Ideal S8192x4096 .f32 :=
  fun i => (∑ k : Fin 2048, a (ix2 (i 0) k) * w (ix3 1 ⟨k.val, lt_trans k.isLt (by decide)⟩ (i 1)))
    + ∑ k : Fin 2048, b (ix2 (i 0) k) * w (ix3 1 ⟨2048 + k.val, Nat.add_lt_add_left k.isLt 2048⟩ (i 1))

variable (m : (ℓ : Loc nD τ sig) → Buf (Elt Ideal) ℓ) (ρ : Dev nD → PrngReg)

/-- A grid point reads a row block of the first half … -/
theorem rows_a_at : ∀ t : Fin cfg0.N, win0_0.index t = ![(grid0.coords t 1).val, 0] :=
  (by decide +kernel : ∀ t : Fin grid0.N, _)
/-- … the same row block of the second half … -/
theorem rows_b_at : ∀ t : Fin cfg0.N, win0_1.index t = ![(grid0.coords t 1).val, 0] :=
  (by decide +kernel : ∀ t : Fin grid0.N, _)
/-- … a column block of the weights' upper rows … -/
theorem upper_at : ∀ t : Fin cfg0.N, win0_2.index t = ![0, (grid0.coords t 0).val] :=
  (by decide +kernel : ∀ t : Fin grid0.N, _)
/-- … the same column block of their lower rows … -/
theorem lower_at : ∀ t : Fin cfg0.N, win0_3.index t = ![1, (grid0.coords t 0).val] :=
  (by decide +kernel : ∀ t : Fin grid0.N, _)
/-- … and writes the block where they meet. -/
theorem out_at : ∀ t : Fin cfg0.N, win0_4.index t = ![(grid0.coords t 1).val, (grid0.coords t 0).val] :=
  (by decide +kernel : ∀ t : Fin grid0.N, _)

/-- The array the kernel leaves is the product. -/
theorem kernel_value (c : Dev nD) :
    (dats m 0 c).arrAt 4 cfg0.N = product (m ((c : Thread nD τ).loc main_arg0)) (m ((c : Thread nD τ).loc main_arg1))
      (m ((c : Thread nD τ).loc main_arg2)) := by
  refine (dats m 0 c).arrAt_eq_of_covers 4 _ (by decide +kernel) fun t _ y => ?_
  blk_simp
  rw [after0_4]; frame_out
  pointwise [k0_pay1, product]
  blk_point [iblk, V, rows_a_at t, rows_b_at t, upper_at t, lower_at t, out_at t]

/-- The reference's expression is the same product: its sum over the joined columns is the sum of the halves' sums. -/
theorem reference_value (a b : FVec Ideal S8192x2048 .bf16) (w : FVec Ideal S4x4096x4096 .f32) :
    (Host.dotGeneral Cert.MmoRefIdeal.dot_S8192x4096_S4096x4096_S8192x4096_1_0_0_1_n_n none
      (concatenate Cert.MmoRefIdeal.S8192x4096 1 [⟨Cert.MmoRefIdeal.S8192x2048, (extf .f32 a Cert.MmoRefIdeal.Gen.bitsLt_bf16_f32)⟩,
        ⟨Cert.MmoRefIdeal.S8192x2048, (extf .f32 b Cert.MmoRefIdeal.Gen.bitsLt_bf16_f32)⟩]
        Cert.MmoRefIdeal.Gen.concatenates_S8192x2048_S8192x2048_S8192x4096_d1)
      (shapeCast _ (extractStridedSlice Cert.MmoRefIdeal.S1x4096x4096 ![1, 0, 0] w
        Cert.MmoRefIdeal.Gen.slices_S4x4096x4096_S1x4096x4096_1_0_0) Cert.MmoRefIdeal.Gen.shapeCasts_S1x4096x4096_S4096x4096)
      : FVec Ideal S8192x4096 .f32) = product a b w := by
  funext i
  pointwise [product]

/-- From equal arguments the two programs leave equal results. -/
theorem algebraic : Cert.algebraic_MmoIdeal_MmoRefIdeal := by
  intro m ρ m' ρ' _ hag
  refine ⟨fun c => product (m ((c : Thread nD τ).loc main_arg0)) (m ((c : Thread nD τ).loc main_arg1)) (m ((c : Thread nD τ).loc main_arg2)),
    (θ_run _ _ _).mono (fun r h c => ⟨(h c).1.trans (kernel_value m c), (h c).2⟩) (Value.run_blocks m ρ),
    (θ_run _ _ _).mono (fun r h c => ⟨(h c).1.trans ?_, (h c).2⟩) (Cert.MmoRefIdeal.Value.run m' ρ')⟩
  rw [(hag c).1, (hag c).2.1, (hag c).2.2]
  exact reference_value _ _ _

end Cert.MmoIdeal.Run

end
-- ==== Proof.Mmu.lean ====
/-
The feed-forward's first product, `u = h · w_up[1]` in f32: the tiled kernel and the reference compute one function of
the two arguments.
-/
module

public import proofs.«01_k».proof.Proof.Gen.MmuIdeal.Value
public import proofs.«01_k».proof.Proof.Gen.MmuRefIdeal.Run
public import proofs.«01_k».proof.Defs
public import Idealize.ShloMosaic.Lib.Pipeline.ValueKit

@[expose] public section

set_option maxRecDepth 16384

noncomputable section

namespace Cert.MmuIdeal.Run

open Cert.MmuIdeal Cert.MmuIdeal.Gen Idealize.ShloMosaic Idealize.ShloMosaic.TcCoe Idealize.SL.Sem

/-- The product of the activations with the second layer's weights. -/
def product (h : FVec Ideal S8192x4096 .bf16) (w : FVec Ideal S4x4096x22016 .f32) : FVec Ideal S8192x22016 .f32 :=
  fun i => ∑ k : Fin 4096, h (ix2 (i 0) k) * w (ix3 1 k (i 1))

variable (m : (ℓ : Loc nD τ sig) → Buf (Elt Ideal) ℓ) (ρ : Dev nD → PrngReg)

/-- Grid point `t` reads row block `t % 8` of the activations. -/
theorem rows_at : ∀ t : Fin cfg0.N, win0_0.index t = ![(grid0.coords t 1).val, 0] :=
  (by decide +kernel : ∀ t : Fin grid0.N, _)
/-- It reads a column block of the weights. -/
theorem cols_at : ∀ t : Fin cfg0.N, win0_1.index t = ![0, (grid0.coords t 0).val] :=
  (by decide +kernel : ∀ t : Fin grid0.N, _)
/-- It writes the block where the two meet. -/
theorem out_at : ∀ t : Fin cfg0.N, win0_2.index t = ![(grid0.coords t 1).val, (grid0.coords t 0).val] :=
  (by decide +kernel : ∀ t : Fin grid0.N, _)

/-- The array the kernel leaves is the product. -/
theorem kernel_value (c : Dev nD) :
    (dats m 0 c).arrAt 2 cfg0.N = product (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, product]
  blk_point [iblk, V, rows_at t, cols_at t, out_at t]

/-- The reference's expression is the same product. -/
theorem reference_value (h : FVec Ideal S8192x4096 .bf16) (w : FVec Ideal S4x4096x22016 .f32) :
    (Host.dotGeneral Cert.MmuRefIdeal.dot_S8192x4096_S4096x22016_S8192x22016_1_0_0_1_n_n none
      (extf .f32 h Cert.MmuRefIdeal.Gen.bitsLt_bf16_f32) (shapeCast _ (extractStridedSlice Cert.MmuRefIdeal.S1x4096x22016 ![1, 0, 0] w
        Cert.MmuRefIdeal.Gen.slices_S4x4096x22016_S1x4096x22016_1_0_0) Cert.MmuRefIdeal.Gen.shapeCasts_S1x4096x22016_S4096x22016) : FVec Ideal S8192x22016 .f32) = product h w := by
  funext i
  pointwise [product]

/-- From equal arguments the two programs leave equal results. -/
theorem algebraic : Cert.algebraic_MmuIdeal_MmuRefIdeal := by
  intro m ρ m' ρ' _ hag
  refine ⟨fun c => product (m ((c : Thread nD τ).loc main_arg0)) (m ((c : Thread nD τ).loc main_arg1)),
    (θ_run _ _ _).mono (fun r h c => ⟨(h c).1.trans (kernel_value m c), (h c).2⟩) (Value.run_blocks m ρ),
    (θ_run _ _ _).mono (fun r h c => ⟨(h c).1.trans ?_, (h c).2⟩) (Cert.MmuRefIdeal.Value.run m' ρ')⟩
  rw [(hag c).1, (hag c).2]
  exact reference_value _ _

end Cert.MmuIdeal.Run

end
-- ==== Proof.Mmd.lean ====
/-
The feed-forward's second product, `y = act · w_down[1]` in f32: the kernel, which adds up two halves of each sum, and the reference compute one function of
the two arguments.
-/
module

public import proofs.«01_k».proof.Proof.Gen.MmdIdeal.Value
public import proofs.«01_k».proof.Proof.Gen.MmdRefIdeal.Run
public import proofs.«01_k».proof.Defs
public import Idealize.ShloMosaic.Lib.Pipeline.ValueKit

@[expose] public section

set_option maxRecDepth 16384

noncomputable section

namespace Cert.MmdIdeal.Run

open Cert.MmdIdeal Cert.MmdIdeal.Gen Idealize.ShloMosaic Idealize.ShloMosaic.TcCoe Idealize.SL.Sem

/-- The product of the activations with the second layer's weights. -/
def product (a : FVec Ideal S8192x11008 .bf16) (w : FVec Ideal S4x11008x4096 .f32) : FVec Ideal S8192x4096 .f32 :=
  fun i => ∑ k : Fin 11008, a (ix2 (i 0) k) * w (ix3 1 k (i 1))

/-- The product, each sum cut in the middle. -/
theorem product_halves (a : FVec Ideal S8192x11008 .bf16) (w : FVec Ideal S4x11008x4096 .f32) (i : S8192x4096.Idx) :
    product a w i = (∑ k : Fin 5504, a (ix2 (i 0) ⟨k.val, lt_trans k.isLt (by decide)⟩) * w (ix3 1 ⟨k.val, lt_trans k.isLt (by decide)⟩ (i 1)))
      + ∑ k : Fin 5504, a (ix2 (i 0) ⟨5504 + k.val, Nat.add_lt_add_left k.isLt 5504⟩)
          * w (ix3 1 ⟨5504 + k.val, Nat.add_lt_add_left k.isLt 5504⟩ (i 1)) :=
  Fin.sum_univ_add (a := 5504) (b := 5504) (M := EReal) _

variable (m : (ℓ : Loc nD τ sig) → Buf (Elt Ideal) ℓ) (ρ : Dev nD → PrngReg)

/-- A grid point reads a block of the activations, its columns in one half … -/
theorem rows_at : ∀ t : Fin cfg0.N, win0_0.index t = ![(grid0.coords t 1).val, t.val % 2] :=
  (by decide +kernel : ∀ t : Fin grid0.N, _)
/-- … a block of the weights, its rows in the same half … -/
theorem cols_at : ∀ t : Fin cfg0.N, win0_1.index t = ![t.val % 2, (grid0.coords t 0).val] :=
  (by decide +kernel : ∀ t : Fin grid0.N, _)
/-- … and adds to the block where they meet. -/
theorem out_at : ∀ t : Fin cfg0.N, win0_2.index t = ![(grid0.coords t 1).val, (grid0.coords t 0).val] :=
  (by decide +kernel : ∀ t : Fin grid0.N, _)
/-- The block is written back at the odd points. -/
theorem odd_of_flush : ∀ t : Fin cfg0.N, (cfg0.win 2).flush t = true → t.val % 2 = 1 :=
  (by decide +kernel : ∀ t : Fin grid0.N, (cfg0.win 2).flush t = true → t.val % 2 = 1)
/-- An odd point and the one before it are at the same block. -/
theorem same_block : ∀ t : Fin cfg0.N, ∀ h : t.val % 2 = 1,
    (grid0.coords ⟨t.val - 1, Nat.lt_of_le_of_lt (Nat.sub_le _ _) t.isLt⟩ 0).val = (grid0.coords t 0).val
    ∧ (grid0.coords ⟨t.val - 1, Nat.lt_of_le_of_lt (Nat.sub_le _ _) t.isLt⟩ 1).val = (grid0.coords t 1).val :=
  (by decide +kernel : ∀ t : Fin grid0.N, ∀ h : t.val % 2 = 1,
    (grid0.coords ⟨t.val - 1, Nat.lt_of_le_of_lt (Nat.sub_le _ _) t.isLt⟩ 0).val = (grid0.coords t 0).val
    ∧ (grid0.coords ⟨t.val - 1, Nat.lt_of_le_of_lt (Nat.sub_le _ _) t.isLt⟩ 1).val = (grid0.coords t 1).val)

/-- What the buffer holds after an odd point: the first half's product, then the second's added. -/
theorem after_odd (c : Dev nD) (t : Fin cfg0.N) (h : t.val % 2 = 1) :
    outsAt0 m c t.val t.isLt = k0_pay2 (k0_pay2 (k0_pay1 (F := Ideal))
      (iblk m c 0 ⟨t.val - 1, Nat.lt_of_le_of_lt (Nat.sub_le _ _) t.isLt⟩) (iblk m c 1 ⟨t.val - 1, Nat.lt_of_le_of_lt (Nat.sub_le _ _) t.isLt⟩))
      (iblk m c 0 t) (iblk m c 1 t) := by
  rw [outsAt0_B m c t (by omega), Value.out_B_2_eq, outsAt0_A m c ⟨t.val - 1, _⟩ (by show (t.val - 1) % 2 = 0; omega), Value.out_A_2_eq]

/-- The array the kernel leaves is the product. -/
theorem kernel_value (c : Dev nD) :
    (dats m 0 c).arrAt 2 cfg0.N = product (m ((c : Thread nD τ).loc main_arg0)) (m ((c : Thread nD τ).loc main_arg1)) := by
  refine (dats m 0 c).arrAt_eq_of_covers 2 _ (by decide +kernel) fun t hf y => ?_
  have ho := odd_of_flush t hf
  have hs := same_block t ho
  have hp : (t.val - 1) % 2 = 0 := by omega
  blk_simp
  rw [after0_2, after_odd m c t ho]
  refine Eq.trans ?_ (product_halves _ _ _).symm
  pointwise [k0_pay1, k0_pay2]
  blk_point [iblk, V, rows_at ⟨t.val - 1, Nat.lt_of_le_of_lt (Nat.sub_le _ _) t.isLt⟩,
    cols_at ⟨t.val - 1, Nat.lt_of_le_of_lt (Nat.sub_le _ _) t.isLt⟩, rows_at t, cols_at t, out_at t, ho, hp, hs.1, hs.2]

/-- The reference's expression is the same product. -/
theorem reference_value (a : FVec Ideal S8192x11008 .bf16) (w : FVec Ideal S4x11008x4096 .f32) :
    (Host.dotGeneral Cert.MmdRefIdeal.dot_S8192x11008_S11008x4096_S8192x4096_1_0_0_1_n_n none
      (extf .f32 a Cert.MmdRefIdeal.Gen.bitsLt_bf16_f32) (shapeCast _ (extractStridedSlice Cert.MmdRefIdeal.S1x11008x4096 ![1, 0, 0] w
        Cert.MmdRefIdeal.Gen.slices_S4x11008x4096_S1x11008x4096_1_0_0) Cert.MmdRefIdeal.Gen.shapeCasts_S1x11008x4096_S11008x4096)
      : FVec Ideal S8192x4096 .f32) = product a w := by
  funext i
  pointwise [product]

/-- From equal arguments the two programs leave equal results. -/
theorem algebraic : Cert.algebraic_MmdIdeal_MmdRefIdeal := by
  intro m ρ m' ρ' _ hag
  refine ⟨fun c => product (m ((c : Thread nD τ).loc main_arg0)) (m ((c : Thread nD τ).loc main_arg1)),
    (θ_run _ _ _).mono (fun r h c => ⟨(h c).1.trans (kernel_value m c), (h c).2⟩) (Value.run_blocks m ρ),
    (θ_run _ _ _).mono (fun r h c => ⟨(h c).1.trans ?_, (h c).2⟩) (Cert.MmdRefIdeal.Value.run m' ρ')⟩
  rw [(hag c).1, (hag c).2]
  exact reference_value _ _

end Cert.MmdIdeal.Run

end
-- ==== Proof.Conv.lean ====
/-
The gated convolution: over each column a causal sum of three rows with the layer's weights and bias, then `silu` of the
first half of the columns times the second half. The kernel takes the columns in tiles of 128 and each tile's rows 256 at
a time, the two rows before them read apart; the tiled kernel and the reference compute one function of the arguments.
-/
module

public import proofs.«01_k».proof.Proof.Gen.ConvIdeal.Frame
public import proofs.«01_k».proof.Proof.Gen.ConvRefIdeal.Run
public import proofs.«01_k».proof.Defs
public import Idealize.ShloMosaic.Lib.Pipeline.ValueKit
public import Idealize.ShloMosaic.Lib.KernelVsHost

@[expose] public section

set_option maxRecDepth 16384

noncomputable section

namespace Cert.ConvIdeal.Run

open Cert.ConvIdeal Cert.ConvIdeal.Gen Idealize.ShloMosaic Idealize.ShloMosaic.TcCoe Idealize.SL.Sem

/-- The entry `k` rows earlier, zero before the first row. -/
def back (k : ℕ) (x : FVec Ideal S8192x128 .f32) (i : S8192x128.Idx) : EReal :=
  if h : k ≤ (i 0).val then x (ix2 ⟨(i 0).val - k, by have h : (i 0).val < 8192 := (i 0).isLt; omega⟩ (i 1)) else 0

/-- The causal sum over three rows of one column tile. -/
def tile (x : FVec Ideal S8192x128 .f32) (w : FVec Ideal S3x128 .f32) (b : FVec Ideal S1x128 .f32) (i : S8192x128.Idx) : EReal :=
  b (ix2 0 (i 1)) + w (ix2 0 (i 1)) * back 2 x i + w (ix2 1 (i 1)) * back 1 x i + w (ix2 2 (i 1)) * x (ix2 (i 0) (i 1))

/-- `silu` of one sum times the other. -/
def gate (g u : EReal) : EReal := g * Ideal.div 1 (1 + Ideal.exp (-g)) * u

/-- The rows a trip computes start at its own 256 … -/
theorem rows_at : ∀ k : Fin k0_t1_loop.trips, k0_off1 k = ![256 * k.val, 0] := by decide +kernel
/-- … the eight rows read before them end there … -/
theorem tail_at : ∀ k : Fin k0_t1_loop.trips, k0_off2 k = ![256 * k.val - 8, 0] := by decide +kernel
/-- … and only the first trip has none. -/
theorem first_trip : ∀ k : Fin k0_t1_loop.trips, Scalar.cmpi .sgt (Scf.iv 0#32 1#32 k) 0#32 = if k.val = 0 then 0#1 else 1#1 := by decide +kernel

/-- Where a trip's rows start, as a number. -/
theorem row_nat (k : Fin k0_t1_loop.trips) : (Scalar.indexCast (Scalar.muli (Scf.iv 0#32 1#32 k) 256#32)).toNat = 256 * k.val :=
  congrFun (rows_at k) 0
/-- Where the eight rows before them start, as a number. -/
theorem tail_nat (k : Fin k0_t1_loop.trips) :
    (Scalar.indexCast (Scalar.maxsi (Scalar.subi (Scalar.muli (Scf.iv 0#32 1#32 k) 256#32) 8#32) 0#32)).toNat = 256 * k.val - 8 :=
  congrFun (tail_at k) 0

/-- Comparing a row's number with a small one. -/
theorem row_is (r n : ℕ) (hr : r < 256) (hn : n < 256) : IntOp.cmpi .eq (BitVec.ofNat 32 r) (BitVec.ofNat 32 n) = if r = n then 1#1 else 0#1 := by
  have : (BitVec.ofNat 32 r = BitVec.ofNat 32 n) ↔ r = n := by
    rw [← BitVec.toNat_inj, BitVec.toNat_ofNat, BitVec.toNat_ofNat, Nat.mod_eq_of_lt (by omega), Nat.mod_eq_of_lt (by omega)]
  by_cases h : r = n
  · subst h; simp [IntOp.cmpi]
  · have h' : BitVec.ofNat 32 r ≠ BitVec.ofNat 32 n := fun e => h (this.mp e)
    simp [IntOp.cmpi, h, beq_eq_false_iff_ne.mpr h']

/-- One row back: the rotated rows, but for the trip's first row, whose predecessor is the last row read before. -/
theorem back_one (X : FVec Ideal S8192x128 .f32) (k : Fin k0_t1_loop.trips) (x : S256x128.Idx) (y : S8192x128.Idx)
    (hy0 : (y 0).val = 256 * k.val + (x 0).val) (hy1 : y 1 = x 1) (o e : ℕ) (ho : o = 256 * k.val) (he : e = 256 * k.val - 8)
    (p1 : o + ((x 0).val + 256 - 1) % 256 < 8192) (p7 : e + 7 < 8192) :
    Scalar.select (IntOp.cmpi .eq (BitVec.ofNat 32 (x 0).val) 0#32)
      (Scalar.select (Scalar.cmpi .sgt (Scf.iv 0#32 1#32 k) 0#32) (X (ix2 ⟨e + 7, p7⟩ (x 1))) (0 : EReal))
      (X (ix2 ⟨o + ((x 0).val + 256 - 1) % 256, p1⟩ (x 1))) = back 1 X y := by
  have hr : (x 0).val < 256 := (x 0).isLt
  rw [row_is _ 0 hr (by omega), first_trip]
  subst ho he
  unfold back
  simp only [hy1]
  by_cases h0 : (x 0).val = 0
  · rw [if_pos h0]
    by_cases hk : k.val = 0
    · rw [if_pos hk, dif_neg (by omega)]; rfl
    · rw [if_neg hk, dif_pos (by omega)]
      refine congrArg (fun z : Fin 8192 => X (ix2 z (x 1))) (Fin.ext ?_)
      show 256 * k.val - 8 + 7 = (y 0).val - 1
      omega
  · rw [if_neg h0, dif_pos (by omega)]
    refine congrArg (fun z : Fin 8192 => X (ix2 z (x 1))) (Fin.ext ?_)
    show 256 * k.val + ((x 0).val + 256 - 1) % 256 = (y 0).val - 1
    omega

/-- Two rows back: the rotated rows, but for the trip's first two rows. -/
theorem back_two (X : FVec Ideal S8192x128 .f32) (k : Fin k0_t1_loop.trips) (x : S256x128.Idx) (y : S8192x128.Idx)
    (hy0 : (y 0).val = 256 * k.val + (x 0).val) (hy1 : y 1 = x 1) (o e : ℕ) (ho : o = 256 * k.val) (he : e = 256 * k.val - 8)
    (p2 : o + ((x 0).val + 256 - 2) % 256 < 8192) (p6 : e + 6 < 8192) (p7 : e + 7 < 8192) :
    Scalar.select (IntOp.cmpi .eq (BitVec.ofNat 32 (x 0).val) 0#32)
      (Scalar.select (Scalar.cmpi .sgt (Scf.iv 0#32 1#32 k) 0#32) (X (ix2 ⟨e + 6, p6⟩ (x 1))) (0 : EReal))
      (Scalar.select (IntOp.cmpi .eq (BitVec.ofNat 32 (x 0).val) 1#32)
        (Scalar.select (Scalar.cmpi .sgt (Scf.iv 0#32 1#32 k) 0#32) (X (ix2 ⟨e + 7, p7⟩ (x 1))) (0 : EReal))
        (X (ix2 ⟨o + ((x 0).val + 256 - 2) % 256, p2⟩ (x 1)))) = back 2 X y := by
  have hr : (x 0).val < 256 := (x 0).isLt
  rw [row_is _ 0 hr (by omega), row_is _ 1 hr (by omega), first_trip]
  subst ho he
  unfold back
  simp only [hy1]
  by_cases h0 : (x 0).val = 0
  · rw [if_pos h0]
    by_cases hk : k.val = 0
    · rw [if_pos hk, dif_neg (by omega)]; rfl
    · rw [if_neg hk, dif_pos (by omega)]
      refine congrArg (fun z : Fin 8192 => X (ix2 z (x 1))) (Fin.ext ?_)
      show 256 * k.val - 8 + 6 = (y 0).val - 2
      omega
  · rw [if_neg h0]
    by_cases h1 : (x 0).val = 1
    · rw [if_pos h1]
      by_cases hk : k.val = 0
      · rw [if_pos hk, dif_neg (by omega)]; rfl
      · rw [if_neg hk, dif_pos (by omega)]
        refine congrArg (fun z : Fin 8192 => X (ix2 z (x 1))) (Fin.ext ?_)
        show 256 * k.val - 8 + 7 = (y 0).val - 2
        omega
    · rw [if_neg h1, dif_pos (by omega)]
      refine congrArg (fun z : Fin 8192 => X (ix2 z (x 1))) (Fin.ext ?_)
      show 256 * k.val + ((x 0).val + 256 - 2) % 256 = (y 0).val - 2
      omega

/-- One half of a trip's sums. -/
theorem tile_at (X : FVec Ideal S8192x128 .f32) (W : FVec Ideal S3x128 .f32) (B : FVec Ideal S1x128 .f32) (k : Fin k0_t1_loop.trips)
    (x : S256x128.Idx) (y : S8192x128.Idx)
    (hy0 : (y 0).val = 256 * k.val + (x 0).val) (hy1 : y 1 = x 1) (o e : ℕ) (ho : o = 256 * k.val) (he : e = 256 * k.val - 8)
    (p0 : o + (x 0).val < 8192) (p1 : o + ((x 0).val + 256 - 1) % 256 < 8192) (p2 : o + ((x 0).val + 256 - 2) % 256 < 8192)
    (p6 : e + 6 < 8192) (p7 : e + 7 < 8192) :
    B (ix2 0 (x 1)) + W (ix2 0 (x 1)) * Scalar.select (IntOp.cmpi .eq (BitVec.ofNat 32 (x 0).val) 0#32)
          (Scalar.select (Scalar.cmpi .sgt (Scf.iv 0#32 1#32 k) 0#32) (X (ix2 ⟨e + 6, p6⟩ (x 1))) (0 : EReal))
          (Scalar.select (IntOp.cmpi .eq (BitVec.ofNat 32 (x 0).val) 1#32)
            (Scalar.select (Scalar.cmpi .sgt (Scf.iv 0#32 1#32 k) 0#32) (X (ix2 ⟨e + 7, p7⟩ (x 1))) (0 : EReal))
            (X (ix2 ⟨o + ((x 0).val + 256 - 2) % 256, p2⟩ (x 1))))
        + W (ix2 1 (x 1)) * Scalar.select (IntOp.cmpi .eq (BitVec.ofNat 32 (x 0).val) 0#32)
          (Scalar.select (Scalar.cmpi .sgt (Scf.iv 0#32 1#32 k) 0#32) (X (ix2 ⟨e + 7, p7⟩ (x 1))) (0 : EReal))
          (X (ix2 ⟨o + ((x 0).val + 256 - 1) % 256, p1⟩ (x 1)))
        + W (ix2 2 (x 1)) * X (ix2 ⟨o + (x 0).val, p0⟩ (x 1)) = tile X W B y := by
  rw [back_one X k x y hy0 hy1 o e ho he p1 p7, back_two X k x y hy0 hy1 o e ho he p2 p6 p7]
  have h0 : (⟨o + (x 0).val, p0⟩ : Fin 8192) = y 0 := Fin.ext (by show o + (x 0).val = (y 0).val; omega)
  rw [h0, ← hy1]
  rfl

/-- What a trip stores, at each place it stores to. -/
theorem trip_at (𝒱 c bd i arg1) (harg1 : arg1.IsWhole) (arg2) (harg2 : arg2.IsWhole) (arg3) (harg3 : arg3.IsWhole) (arg4) (harg4 : arg4.IsWhole) (arg5) (harg5 : arg5.IsWhole) (arg6) (harg6 : arg6.IsWhole) (arg7) (harg7 : arg7.IsWhole) (x1 : Vec Ideal S8192x128 .f32) (x2 : Vec Ideal S8192x128 .f32) (x3 : Vec Ideal S3x128 .f32) (x4 : Vec Ideal S3x128 .f32) (x5 : Vec Ideal S1x128 .f32) (x6 : Vec Ideal S1x128 .f32) (k) (p)
   (hp : p ∈ tripL_k0_t1 (F := Ideal) 𝒱 c bd i arg1 harg1 arg2 harg2 arg3 harg3 arg4 harg4 arg5 harg5 arg6 harg6 arg7 harg7 (iota .tc S256x128 32 [0] iota_S256x128_d0_w32) (harg1.unread x1) (harg2.unread x2) (harg3.unread x3) (harg4.unread x4) (harg5.unread x5) (harg6.unread x6) k) :
   ∀ x y, y = p.1.emb x → p.2 x = gate (tile x1 x3 x5 y) (tile x2 x4 x6 y) := by
  unfold tripL_k0_t1 trip_k0_t1 at hp
  dsimp only at hp
  obtain rfl := List.mem_singleton.mp hp
  refine fun (x : S256x128.Idx) (y : S8192x128.Idx) hy => ?_
  have hy0 : (y 0).val = 256 * k.val + (x 0).val := by
    rw [hy]
    show k0_off1 k 0 + 1 * (x 0).val = _
    rw [rows_at, one_mul]; rfl
  have hy1 : y 1 = x 1 := by
    rw [hy]
    refine Fin.ext ?_
    show k0_off1 k 1 + 1 * (x 1).val = _
    rw [rows_at, one_mul]; exact Nat.zero_add _
  clear hy hp
  dsimp only
  sl_unfold_words
  simp only [View.readAt_eq_ld, Memref.IsWhole.read_unread]
  pointwise [k0_pay1, k0_pay2, k0_pay3, k0_pay4, k0_pay5, k0_pay6, k0_pay7, k0_pay8, k0_pay9, k0_pay10, k0_pay11, k0_pay12, k0_pay13]
  rw [zero_sub]
  exact congrArg₂ gate (tile_at x1 x3 x5 k x y hy0 hy1 _ _ (row_nat k) (tail_nat k) _ _ _ _ _)
    (tile_at x2 x4 x6 k x y hy0 hy1 _ _ (row_nat k) (tail_nat k) _ _ _ _ _)

/-- Every store of the trips before `n` is some trip's. -/
theorem pieces_at (𝒱 c bd i arg1) (harg1 : arg1.IsWhole) (arg2) (harg2 : arg2.IsWhole) (arg3) (harg3 : arg3.IsWhole) (arg4) (harg4 : arg4.IsWhole) (arg5) (harg5 : arg5.IsWhole) (arg6) (harg6 : arg6.IsWhole) (arg7) (harg7 : arg7.IsWhole) (x1 : Vec Ideal S8192x128 .f32) (x2 : Vec Ideal S8192x128 .f32) (x3 : Vec Ideal S3x128 .f32) (x4 : Vec Ideal S3x128 .f32) (x5 : Vec Ideal S1x128 .f32) (x6 : Vec Ideal S1x128 .f32) (n : ℕ) (hn : n ≤ k0_t1_loop.trips) (p)
   (hp : p ∈ pb_k0_t1 (F := Ideal) 𝒱 c bd i arg1 harg1 arg2 harg2 arg3 harg3 arg4 harg4 arg5 harg5 arg6 harg6 arg7 harg7 (iota .tc S256x128 32 [0] iota_S256x128_d0_w32) (harg1.unread x1) (harg2.unread x2) (harg3.unread x3) (harg4.unread x4) (harg5.unread x5) (harg6.unread x6) n) :
   ∀ x, p.2 x = gate (tile x1 x3 x5 (p.1.emb x)) (tile x2 x4 x6 (p.1.emb x)) := by
  induction n with
  | zero => rw [pb_k0_t1.eq_1] at hp; exact absurd hp List.not_mem_nil
  | succ n ih =>
    have e := pb_k0_t1_succ (F := Ideal) 𝒱 c bd i arg1 harg1 arg2 harg2 arg3 harg3 arg4 harg4 arg5 harg5 arg6 harg6 arg7 harg7 (iota .tc S256x128 32 [0] iota_S256x128_d0_w32) (harg1.unread x1) (harg2.unread x2) (harg3.unread x3) (harg4.unread x4) (harg5.unread x5) (harg6.unread x6) ⟨n, hn⟩
    rw [show n + 1 = (⟨n, hn⟩ : Fin k0_t1_loop.trips).val + 1 from rfl, e] at hp
    rcases List.mem_append.mp hp with hp | hp
    · exact fun x => trip_at 𝒱 c bd i arg1 harg1 arg2 harg2 arg3 harg3 arg4 harg4 arg5 harg5 arg6 harg6 arg7 harg7 x1 x2 x3 x4 x5 x6 ⟨n, hn⟩ p hp x _ rfl
    · exact ih (by omega) hp

/-- What the body leaves of a column tile. -/
theorem body_at (c : Dev nD) (i arg1) (harg1 : arg1.IsWhole) (arg2) (harg2 : arg2.IsWhole) (arg3) (harg3 : arg3.IsWhole) (arg4) (harg4 : arg4.IsWhole) (arg5) (harg5 : arg5.IsWhole) (arg6) (harg6 : arg6.IsWhole) (arg7) (harg7 : arg7.IsWhole) (x1 : Vec Ideal S8192x128 .f32) (x2 : Vec Ideal S8192x128 .f32) (x3 : Vec Ideal S3x128 .f32) (x4 : Vec Ideal S3x128 .f32) (x5 : Vec Ideal S1x128 .f32) (x6 : Vec Ideal S1x128 .f32) (y : S8192x128.Idx) :
    out0_A_6 c i arg1 harg1 arg2 harg2 arg3 harg3 arg4 harg4 arg5 harg5 arg6 harg6 arg7 harg7 x1 x2 x3 x4 x5 x6 y
      = gate (tile x1 x3 x5 y) (tile x2 x4 x6 y) := by
  have hc := cover0_A_6 c i arg1 harg1 arg2 harg2 arg3 harg3 arg4 harg4 arg5 harg5 arg6 harg6 arg7 harg7 x1 x2 x3 x4 x5 x6 y
  unfold out0_A_6
  refine View.read_writes_apply_of_pieces _ _ (fun y => gate (tile x1 x3 x5 y) (tile x2 x4 x6 y)) _ ?_ y hc
  intro p hp
  unfold kernelRun0_A at hp
  dsimp only at hp
  exact pieces_at _ c _ i arg1 harg1 arg2 harg2 arg3 harg3 arg4 harg4 arg5 harg5 arg6 harg6 arg7 harg7 x1 x2 x3 x4 x5 x6 _ le_rfl p hp

/-- The layer's sum over a row and the two before it, rows before the first being zero. -/
def mixed (u : FVec Ideal S8192x22016 .f32) (w : FVec Ideal S4x3x22016 .f32) (b : FVec Ideal S4x22016 .f32) (s : Fin 8192) (j : Fin 22016) : EReal :=
  b (ix2 1 j) + w (ix3 1 0 j) * (if h : 2 ≤ s.val then u (ix2 ⟨s.val - 2, by omega⟩ j) else 0)
    + w (ix3 1 1 j) * (if h : 1 ≤ s.val then u (ix2 ⟨s.val - 1, by omega⟩ j) else 0) + w (ix3 1 2 j) * u (ix2 s j)

/-- `silu` of the first half of the columns times the second half. -/
def gated (u : FVec Ideal S8192x22016 .f32) (w : FVec Ideal S4x3x22016 .f32) (b : FVec Ideal S4x22016 .f32) : FVec Ideal S8192x11008 .bf16 := fun i =>
  gate (mixed u w b (i 0) ⟨(i 1).val, by have h : (i 1).val < 11008 := (i 1).isLt; omega⟩)
    (mixed u w b (i 0) ⟨11008 + (i 1).val, by have h : (i 1).val < 11008 := (i 1).isLt; omega⟩)

variable (m : (ℓ : Loc nD τ sig) → Buf (Elt Ideal) ℓ) (ρ : Dev nD → PrngReg)

/-- Grid point `t` reads column tile `t` of the first half … -/
theorem gate_at : ∀ t : Fin cfg0.N, win0_0.index t = ![0, t.val] := (by decide +kernel : ∀ t : Fin grid0.N, _)
/-- … and of the second … -/
theorem up_at : ∀ t : Fin cfg0.N, win0_1.index t = ![0, 86 + t.val] := (by decide +kernel : ∀ t : Fin grid0.N, _)
/-- … the weights of the first … -/
theorem gate_weight_at : ∀ t : Fin cfg0.N, win0_2.index t = ![0, t.val] := (by decide +kernel : ∀ t : Fin grid0.N, _)
/-- … and of the second … -/
theorem up_weight_at : ∀ t : Fin cfg0.N, win0_3.index t = ![0, 86 + t.val] := (by decide +kernel : ∀ t : Fin grid0.N, _)
/-- … the biases of the first … -/
theorem gate_bias_at : ∀ t : Fin cfg0.N, win0_4.index t = ![0, t.val] := (by decide +kernel : ∀ t : Fin grid0.N, _)
/-- … and of the second … -/
theorem up_bias_at : ∀ t : Fin cfg0.N, win0_5.index t = ![0, 86 + t.val] := (by decide +kernel : ∀ t : Fin grid0.N, _)
/-- … and writes column tile `t`. -/
theorem out_at : ∀ t : Fin cfg0.N, win0_6.index t = ![0, t.val] := (by decide +kernel : ∀ t : Fin grid0.N, _)

/-- A tile of the first half is that tile of the columns … -/
theorem gate_block (c : Dev nD) (t : Fin cfg0.N) (s : Fin 8192) (l : Fin 128) :
    (iblk m c 0 t : Vec Ideal S8192x128 .f32) (ix2 s l)
      = m ((c : Thread nD τ).loc main_arg0) (ix2 s ⟨128 * t.val + l.val, by have := t.isLt; have : cfg0.N = 86 := N_0; omega⟩) := by
  blk_point [iblk, V, gate_at t]

/-- … and a tile of the second half. -/
theorem up_block (c : Dev nD) (t : Fin cfg0.N) (s : Fin 8192) (l : Fin 128) :
    (iblk m c 1 t : Vec Ideal S8192x128 .f32) (ix2 s l)
      = m ((c : Thread nD τ).loc main_arg0) (ix2 s ⟨11008 + (128 * t.val + l.val), by have := t.isLt; have : cfg0.N = 86 := N_0; omega⟩) := by
  blk_point [iblk, V, up_at t]

/-- The weights of a tile of the first half … -/
theorem gate_weight (c : Dev nD) (t : Fin cfg0.N) (r : Fin 3) (l : Fin 128) :
    (iblk m c 2 t : Vec Ideal S3x128 .f32) (ix2 r l)
      = m ((c : Thread nD τ).loc main_arg1) (ix3 1 r ⟨128 * t.val + l.val, by have := t.isLt; have : cfg0.N = 86 := N_0; omega⟩) := by
  blk_point [iblk, V, gate_weight_at t]

/-- … and of the second. -/
theorem up_weight (c : Dev nD) (t : Fin cfg0.N) (r : Fin 3) (l : Fin 128) :
    (iblk m c 3 t : Vec Ideal S3x128 .f32) (ix2 r l)
      = m ((c : Thread nD τ).loc main_arg1) (ix3 1 r ⟨11008 + (128 * t.val + l.val), by have := t.isLt; have : cfg0.N = 86 := N_0; omega⟩) := by
  blk_point [iblk, V, up_weight_at t]

/-- The biases of a tile of the first half … -/
theorem gate_bias (c : Dev nD) (t : Fin cfg0.N) (r : Fin 1) (l : Fin 128) :
    (iblk m c 4 t : Vec Ideal S1x128 .f32) (ix2 r l)
      = m ((c : Thread nD τ).loc main_arg2) (ix2 1 ⟨128 * t.val + l.val, by have := t.isLt; have : cfg0.N = 86 := N_0; omega⟩) := by
  blk_point [iblk, V, gate_bias_at t]

/-- … and of the second. -/
theorem up_bias (c : Dev nD) (t : Fin cfg0.N) (r : Fin 1) (l : Fin 128) :
    (iblk m c 5 t : Vec Ideal S1x128 .f32) (ix2 r l)
      = m ((c : Thread nD τ).loc main_arg2) (ix2 1 ⟨11008 + (128 * t.val + l.val), by have := t.isLt; have : cfg0.N = 86 := N_0; omega⟩) := by
  blk_point [iblk, V, up_bias_at t]

/-- A tile's sums are the layer's. -/
theorem tile_mixed (u : FVec Ideal S8192x22016 .f32) (w : FVec Ideal S4x3x22016 .f32) (b : FVec Ideal S4x22016 .f32)
    (x : FVec Ideal S8192x128 .f32) (v : FVec Ideal S3x128 .f32) (d : FVec Ideal S1x128 .f32) (y : S8192x128.Idx) (j : Fin 22016)
    (hx : ∀ s : Fin 8192, x (ix2 s (y 1)) = u (ix2 s j)) (hv : ∀ r : Fin 3, v (ix2 r (y 1)) = w (ix3 1 r j)) (hd : d (ix2 0 (y 1)) = b (ix2 1 j)) :
    tile x v d y = mixed u w b (y 0) j := by
  unfold tile mixed back
  simp only [hx, hv, hd]
  exact congrArg₂ (· + ·) rfl (congrArg (w (ix3 1 2 j) * ·) (hx (y 0)))

/-- The array the kernel leaves. -/
theorem kernel_value (c : Dev nD) :
    (dats m 0 c).arrAt 6 cfg0.N = gated (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  have hy0 : ∀ p, (⟨(y 0).val, p⟩ : Fin 8192) = y 0 := fun _ => rfl
  have e : ((win0_6.blk t).view.emb y : S8192x11008.Idx) = ix2 (y 0) ⟨128 * t.val + (y 1).val, by have h : (y 1).val < 128 := (y 1).isLt; have := Nat.lt_of_lt_of_eq t.isLt N_0; omega⟩ := by
    blk_point [out_at t]
  refine (body_at c _ _ _ _ _ _ _ _ _ _ _ _ _ _ _ _ _ _ _ _ _ y).trans ?_
  refine Eq.trans ?_ (congrArg (gated (m ((c : Thread nD τ).loc main_arg0)) (m ((c : Thread nD τ).loc main_arg1)) (m ((c : Thread nD τ).loc main_arg2))) e.symm)
  refine congrArg₂ gate ?_ ?_
  · exact tile_mixed _ _ _ _ _ _ y _ (fun s => gate_block m c t s (y 1)) (fun r => gate_weight m c t r (y 1)) (gate_bias m c t 0 (y 1))
  · exact tile_mixed _ _ _ _ _ _ y _ (fun s => up_block m c t s (y 1)) (fun r => up_weight m c t r (y 1)) (up_bias m c t 0 (y 1))

/-- Two rows of zeros in front: the entry two rows earlier, zero in the first two rows. -/
theorem pad_rows (u : FVec Ideal S8192x22016 .f32) (v : FVec Ideal Cert.ConvRefIdeal.S_ .f32) (hp hv) :
    pad Cert.ConvRefIdeal.S8194x22016 ![2, 0] ![0, 0] ![0, 0] u v hp hv
      = fun i => if h : 2 ≤ (i 0).val then u (ix2 ⟨(i 0).val - 2, by have h : (i 0).val < 8194 := (i 0).isLt; omega⟩ (i 1)) else v (fun a => a.elim0) := by
  funext i
  have h0 : (i 0).val < 8194 := (i 0).isLt
  have h1 : (i 1).val < 22016 := (i 1).isLt
  by_cases h : 2 ≤ (i 0).val
  · rw [dif_pos h]
    refine pad_apply_of_inside _ _ _ u v hp hv _ (ix2 ⟨(i 0).val - 2, by omega⟩ (i 1)) ?_
    intro a
    match a with
    | ⟨0, _⟩ => show (i 0).val = 2 + ((i 0).val - 2) * (0 + 1); omega
    | ⟨1, _⟩ => show (i 1).val = 0 + (i 1).val * (0 + 1); omega
  · rw [dif_neg h]
    refine (pad_apply_of_not_inside _ _ _ u v hp hv _ (0 : Fin 2) ?_).trans (congrArg v (funext fun a => a.elim0))
    show ¬ (2 ≤ (i 0).val ∧ _)
    exact fun hh => h hh.1

/-- The padding is zero. -/
theorem zero_pad : (FloatOps.sitofp .f32 0#32 : Ideal .f32) = (0 : EReal) := by
  show (((0#32 : BitVec 32).toInt : ℝ) : EReal) = 0
  simp

/-- The reference's expression is the same function of the arguments. -/
theorem reference_value (m' : (ℓ : Loc Cert.ConvRefIdeal.nD Cert.ConvRefIdeal.τ Cert.ConvRefIdeal.sig) → Buf (Elt Ideal) ℓ) (c : Dev Cert.ConvRefIdeal.nD) :
    Cert.ConvRefIdeal.Value.res_main_v32 m' c = gated (m' ((c.tc : Thread Cert.ConvRefIdeal.nD Cert.ConvRefIdeal.τ).loc Cert.ConvRefIdeal.main_arg0))
      (m' ((c.tc : Thread Cert.ConvRefIdeal.nD Cert.ConvRefIdeal.τ).loc Cert.ConvRefIdeal.main_arg1)) (m' ((c.tc : Thread Cert.ConvRefIdeal.nD Cert.ConvRefIdeal.τ).loc Cert.ConvRefIdeal.main_arg2)) := by
  unfold Cert.ConvRefIdeal.Value.res_main_v32
  simp only [pad_rows]
  refine funext fun (i : S8192x11008.Idx) => ?_
  pointwise [gated, gate, mixed, zero_pad]
  by_cases h : 1 ≤ (i 0).val
  · have h2 : 2 ≤ 1 + (i 0).val := by omega
    have e : 1 + (i 0).val - 2 = (i 0).val - 1 := by omega
    simp only [dif_pos h, dif_pos h2, e]
  · have h2 : ¬ 2 ≤ 1 + (i 0).val := by omega
    simp only [dif_neg h, dif_neg h2]

/-- From equal arguments the two programs leave equal results. -/
theorem algebraic : Cert.algebraic_ConvIdeal_ConvRefIdeal := by
  intro m ρ m' ρ' _ hag
  refine ⟨fun c => gated (m ((c : Thread nD τ).loc main_arg0)) (m ((c : Thread nD τ).loc main_arg1)) (m ((c : Thread nD τ).loc main_arg2)),
    (θ_run _ _ _).mono (fun r h c => ⟨((h.1 c).1 6).trans (kernel_value m c), h.2 c⟩) (θ_run_and (run_main m ρ) (unchanged m ρ)),
    (θ_run _ _ _).mono (fun r h c => ⟨(h c).1.trans ?_, (h c).2⟩) (Cert.ConvRefIdeal.Value.run m' ρ')⟩
  rw [reference_value, (hag c).1, (hag c).2.1, (hag c).2.2]

end Cert.ConvIdeal.Run

end
-- ==== Proof.Norm.lean ====
/-
The norm of the attention's output, `bf16(rms_norm(o, sba_norm[1]))`: the tiled kernel and the reference compute one function of
the two arguments.
-/
module

public import proofs.«01_k».proof.Proof.Gen.NormIdeal.Value
public import proofs.«01_k».proof.Proof.Gen.NormRefIdeal.Run
public import proofs.«01_k».proof.Defs
public import Idealize.ShloMosaic.Lib.Pipeline.ValueKit

@[expose] public section

set_option maxRecDepth 16384

noncomputable section

namespace Cert.NormIdeal.Run

open Cert.NormIdeal Cert.NormIdeal.Gen Idealize.ShloMosaic Idealize.ShloMosaic.TcCoe Idealize.SL.Sem

/-- Each row over the root of its mean square (and the small constant), times the gain. -/
def normed (x : FVec Ideal S8192x2048 .f32) (g : FVec Ideal S4x2048 .f32) : FVec Ideal S8192x2048 .bf16 :=
  fun i => x (ix2 (i 0) (i 1)) * Ideal.rsqrt (Ideal.div (∑ j : Fin 2048, x (ix2 (i 0) j) * x (ix2 (i 0) j)) (Ideal.ofBits .f32 0x45000000#32)
    + Ideal.ofBits .f32 0x358637BD#32) * g (ix2 1 (i 1))

variable (m : (ℓ : Loc nD τ sig) → Buf (Elt Ideal) ℓ) (ρ : Dev nD → PrngReg)

/-- A grid point reads a block of rows … -/
theorem rows_at : ∀ t : Fin cfg0.N, win0_0.index t = ![t.val, 0] :=
  (by decide +kernel : ∀ t : Fin grid0.N, _)
/-- … the whole gain … -/
theorem gain_at : ∀ t : Fin cfg0.N, win0_1.index t = ![0, 0] :=
  (by decide +kernel : ∀ t : Fin grid0.N, _)
/-- … and writes the same block of rows. -/
theorem out_at : ∀ t : Fin cfg0.N, win0_2.index t = ![t.val, 0] :=
  (by decide +kernel : ∀ t : Fin grid0.N, _)

/-- The array the kernel leaves. -/
theorem kernel_value (c : Dev nD) :
    (dats m 0 c).arrAt 2 cfg0.N = normed (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, normed]
  blk_point [iblk, V, rows_at t, gain_at t, out_at t]

/-- The reference's expression is the same. -/
theorem reference_value (x : FVec Ideal S8192x2048 .f32) (g : FVec Ideal S4x2048 .f32) :
    (truncf .bf16 (mulf (mulf x (broadcastInDim Cert.NormRefIdeal.S8192x2048 ![0, 1] Cert.NormRefIdeal.Gen.bcast_S8192x1_S8192x2048_0_1 (Host.rsqrt (addf (Host.divf (broadcastInDim Cert.NormRefIdeal.S8192x1 ![0] Cert.NormRefIdeal.Gen.bcast_S8192_S8192x1_0 (Host.reduceAdd (mulf x x) (constant Cert.NormRefIdeal.S_ .f32 0x00000000#32) Cert.NormRefIdeal.Gen.reducesTo_S8192x2048_S8192_d1 Cert.NormRefIdeal.Gen.h_S_)) (broadcastInDim Cert.NormRefIdeal.S8192x1 ![] Cert.NormRefIdeal.Gen.bcast_S_S8192x1 (constant Cert.NormRefIdeal.S_ .f32 0x45000000#32))) (broadcastInDim Cert.NormRefIdeal.S8192x1 ![] Cert.NormRefIdeal.Gen.bcast_S_S8192x1 (constant Cert.NormRefIdeal.S_ .f32 0x358637BD#32)))))) (broadcastInDim Cert.NormRefIdeal.S8192x2048 ![0, 1] Cert.NormRefIdeal.Gen.bcast_S1x2048_S8192x2048_0_1 (broadcastInDim Cert.NormRefIdeal.S1x2048 ![1] Cert.NormRefIdeal.Gen.bcast_S2048_S1x2048_1 (shapeCast _ (extractStridedSlice Cert.NormRefIdeal.S1x2048 ![1, 0] g Cert.NormRefIdeal.Gen.slices_S4x2048_S1x2048_1_0) Cert.NormRefIdeal.Gen.shapeCasts_S1x2048_S2048)))) Cert.NormRefIdeal.Gen.bitsLt_bf16_f32
      : FVec Ideal S8192x2048 .bf16) = normed x g := by
  funext i
  pointwise [normed]

/-- From equal arguments the two programs leave equal results. -/
theorem algebraic : Cert.algebraic_NormIdeal_NormRefIdeal := by
  intro m ρ m' ρ' _ hag
  refine ⟨fun c => normed (m ((c : Thread nD τ).loc main_arg0)) (m ((c : Thread nD τ).loc main_arg1)),
    (θ_run _ _ _).mono (fun r h c => ⟨(h c).1.trans (kernel_value m c), (h c).2⟩) (Value.run_blocks m ρ),
    (θ_run _ _ _).mono (fun r h c => ⟨(h c).1.trans ?_, (h c).2⟩) (Cert.NormRefIdeal.Value.run m' ρ')⟩
  rw [(hag c).1, (hag c).2]
  exact reference_value _ _

end Cert.NormIdeal.Run

end
-- ==== Proof.PreNorm.lean ====
/-
The layer's first norm, `bf16(rms_norm(x, pre_mix_norm[0]))`: the tiled kernel and the reference compute one function of
the two arguments.
-/
module

public import proofs.«01_k».proof.Proof.Gen.PreNormIdeal.Value
public import proofs.«01_k».proof.Proof.Gen.PreNormRefIdeal.Run
public import proofs.«01_k».proof.Defs
public import Idealize.ShloMosaic.Lib.Pipeline.ValueKit

@[expose] public section

set_option maxRecDepth 16384

noncomputable section

namespace Cert.PreNormIdeal.Run

open Cert.PreNormIdeal Cert.PreNormIdeal.Gen Idealize.ShloMosaic Idealize.ShloMosaic.TcCoe Idealize.SL.Sem

/-- Each row over the root of its mean square (and the small constant), times the gain. -/
def normed (x : FVec Ideal S1x8192x4096 .f32) (g : FVec Ideal S4x4096 .f32) : FVec Ideal S8192x4096 .bf16 :=
  fun i => x (ix3 0 (i 0) (i 1)) * Ideal.rsqrt (Ideal.div (∑ j : Fin 4096, x (ix3 0 (i 0) j) * x (ix3 0 (i 0) j)) (Ideal.ofBits .f32 0x45800000#32)
    + Ideal.ofBits .f32 0x358637BD#32) * g (ix2 0 (i 1))

variable (m : (ℓ : Loc nD τ sig) → Buf (Elt Ideal) ℓ) (ρ : Dev nD → PrngReg)

/-- A grid point reads a block of rows … -/
theorem rows_at : ∀ t : Fin cfg0.N, win0_0.index t = ![t.val, 0] :=
  (by decide +kernel : ∀ t : Fin grid0.N, _)
/-- … the whole gain … -/
theorem gain_at : ∀ t : Fin cfg0.N, win0_1.index t = ![0, 0] :=
  (by decide +kernel : ∀ t : Fin grid0.N, _)
/-- … and writes the same block of rows. -/
theorem out_at : ∀ t : Fin cfg0.N, win0_2.index t = ![t.val, 0] :=
  (by decide +kernel : ∀ t : Fin grid0.N, _)

/-- The array the kernel leaves. -/
theorem kernel_value (c : Dev nD) :
    (dats m 0 c).arrAt 2 cfg0.N = normed (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, normed]
  blk_point [iblk, V, rows_at t, gain_at t, out_at t]

/-- The reference's expression is the same. -/
theorem reference_value (x : FVec Ideal S1x8192x4096 .f32) (g : FVec Ideal S4x4096 .f32) :
    (truncf .bf16 (mulf (mulf (shapeCast _ x Cert.PreNormRefIdeal.Gen.shapeCasts_S1x8192x4096_S8192x4096) (broadcastInDim Cert.PreNormRefIdeal.S8192x4096 ![0, 1] Cert.PreNormRefIdeal.Gen.bcast_S8192x1_S8192x4096_0_1 (Host.rsqrt (addf (Host.divf (broadcastInDim Cert.PreNormRefIdeal.S8192x1 ![0] Cert.PreNormRefIdeal.Gen.bcast_S8192_S8192x1_0 (Host.reduceAdd (mulf (shapeCast _ x Cert.PreNormRefIdeal.Gen.shapeCasts_S1x8192x4096_S8192x4096) (shapeCast _ x Cert.PreNormRefIdeal.Gen.shapeCasts_S1x8192x4096_S8192x4096)) (constant Cert.PreNormRefIdeal.S_ .f32 0x00000000#32) Cert.PreNormRefIdeal.Gen.reducesTo_S8192x4096_S8192_d1 Cert.PreNormRefIdeal.Gen.h_S_)) (broadcastInDim Cert.PreNormRefIdeal.S8192x1 ![] Cert.PreNormRefIdeal.Gen.bcast_S_S8192x1 (constant Cert.PreNormRefIdeal.S_ .f32 0x45800000#32))) (broadcastInDim Cert.PreNormRefIdeal.S8192x1 ![] Cert.PreNormRefIdeal.Gen.bcast_S_S8192x1 (constant Cert.PreNormRefIdeal.S_ .f32 0x358637BD#32)))))) (broadcastInDim Cert.PreNormRefIdeal.S8192x4096 ![0, 1] Cert.PreNormRefIdeal.Gen.bcast_S1x4096_S8192x4096_0_1 (broadcastInDim Cert.PreNormRefIdeal.S1x4096 ![1] Cert.PreNormRefIdeal.Gen.bcast_S4096_S1x4096_1 (shapeCast _ (extractStridedSlice Cert.PreNormRefIdeal.S1x4096 ![0, 0] g Cert.PreNormRefIdeal.Gen.slices_S4x4096_S1x4096_0_0) Cert.PreNormRefIdeal.Gen.shapeCasts_S1x4096_S4096)))) Cert.PreNormRefIdeal.Gen.bitsLt_bf16_f32
      : FVec Ideal S8192x4096 .bf16) = normed x g := by
  funext i
  pointwise [normed]

/-- From equal arguments the two programs leave equal results. -/
theorem algebraic : Cert.algebraic_PreNormIdeal_PreNormRefIdeal := by
  intro m ρ m' ρ' _ hag
  refine ⟨fun c => normed (m ((c : Thread nD τ).loc main_arg0)) (m ((c : Thread nD τ).loc main_arg1)),
    (θ_run _ _ _).mono (fun r h c => ⟨(h c).1.trans (kernel_value m c), (h c).2⟩) (Value.run_blocks m ρ),
    (θ_run _ _ _).mono (fun r h c => ⟨(h c).1.trans ?_, (h c).2⟩) (Cert.PreNormRefIdeal.Value.run m' ρ')⟩
  rw [(hag c).1, (hag c).2]
  exact reference_value _ _

end Cert.PreNormIdeal.Run

end
-- ==== Proof.Resid.lean ====
/-
The last residual step, `x + rms_norm(y, post_ffn_norm[3])` and, of the sum, `bf16(rms_norm(·, pre_mix_norm[0]))`: the tiled kernel and the reference compute one pair of functions of
the four arguments.
-/
module

public import proofs.«01_k».proof.Proof.Gen.ResidIdeal.Value
public import proofs.«01_k».proof.Proof.Gen.ResidRefIdeal.Run
public import proofs.«01_k».proof.Defs
public import Idealize.ShloMosaic.Lib.Pipeline.ValueKit

@[expose] public section

set_option maxRecDepth 16384

noncomputable section

namespace Cert.ResidIdeal.Run

open Cert.ResidIdeal Cert.ResidIdeal.Gen Idealize.ShloMosaic Idealize.ShloMosaic.TcCoe Idealize.SL.Sem

/-- Each row over the root of its mean square (and the small constant), times one layer's gain. -/
def normed (l : Fin 4) (x : FVec Ideal S8192x4096 .f32) (g : FVec Ideal S4x4096 .f32) : FVec Ideal S8192x4096 .f32 :=
  fun i => x (ix2 (i 0) (i 1)) * Ideal.rsqrt (Ideal.div (∑ j : Fin 4096, x (ix2 (i 0) j) * x (ix2 (i 0) j)) (Ideal.ofBits .f32 0x45800000#32)
    + Ideal.ofBits .f32 0x358637BD#32) * g (ix2 l (i 1))

/-- The stream with the normed branch added. -/
def added (x y : FVec Ideal S8192x4096 .f32) (g : FVec Ideal S4x4096 .f32) : FVec Ideal S8192x4096 .f32 :=
  fun i => x (ix2 (i 0) (i 1)) + normed 3 y g i

variable (m : (ℓ : Loc nD τ sig) → Buf (Elt Ideal) ℓ) (ρ : Dev nD → PrngReg)

/-- A grid point reads a block of the stream's rows … -/
theorem stream_at : ∀ t : Fin cfg0.N, win0_0.index t = ![t.val, 0] :=
  (by decide +kernel : ∀ t : Fin grid0.N, _)
/-- … the same rows of the branch … -/
theorem branch_at : ∀ t : Fin cfg0.N, win0_1.index t = ![t.val, 0] :=
  (by decide +kernel : ∀ t : Fin grid0.N, _)
/-- … the whole first gain … -/
theorem gain_at : ∀ t : Fin cfg0.N, win0_2.index t = ![0, 0] :=
  (by decide +kernel : ∀ t : Fin grid0.N, _)
/-- … the whole second gain … -/
theorem next_gain_at : ∀ t : Fin cfg0.N, win0_3.index t = ![0, 0] :=
  (by decide +kernel : ∀ t : Fin grid0.N, _)
/-- … and writes these rows of the sum … -/
theorem sum_at : ∀ t : Fin cfg0.N, win0_4.index t = ![t.val, 0] :=
  (by decide +kernel : ∀ t : Fin grid0.N, _)
/-- … and of the normed sum. -/
theorem out_at : ∀ t : Fin cfg0.N, win0_5.index t = ![t.val, 0] :=
  (by decide +kernel : ∀ t : Fin grid0.N, _)

/-- The first array the kernel leaves is the sum. -/
theorem kernel_sum (c : Dev nD) :
    (dats m 0 c).arrAt 4 cfg0.N = added (m ((c : Thread nD τ).loc main_arg0)) (m ((c : Thread nD τ).loc main_arg1))
      (m ((c : Thread nD τ).loc main_arg2)) := by
  refine (dats m 0 c).arrAt_eq_of_covers 4 _ (by decide +kernel) fun t _ y => ?_
  blk_simp
  rw [after0_4]; frame_out
  pointwise [k0_pay1, added, normed]
  blk_point [iblk, V, stream_at t, branch_at t, gain_at t, sum_at t]

/-- The second is the normed sum. -/
theorem kernel_normed (c : Dev nD) :
    (dats m 0 c).arrAt 5 cfg0.N = normed 0 (added (m ((c : Thread nD τ).loc main_arg0)) (m ((c : Thread nD τ).loc main_arg1))
      (m ((c : Thread nD τ).loc main_arg2))) (m ((c : Thread nD τ).loc main_arg3)) := by
  refine (dats m 0 c).arrAt_eq_of_covers 5 _ (by decide +kernel) fun t _ y => ?_
  blk_simp
  rw [after0_5]; frame_out
  pointwise [k0_pay1, k0_pay2, added, normed]
  blk_point [iblk, V, stream_at t, branch_at t, gain_at t, next_gain_at t, out_at t]

/-- From equal arguments the two programs leave equal results. -/
theorem algebraic : Cert.algebraic_ResidIdeal_ResidRefIdeal := by
  intro m ρ m' ρ' _ hag
  refine ⟨fun c => added (m ((c : Thread nD τ).loc main_arg0)) (m ((c : Thread nD τ).loc main_arg1)) (m ((c : Thread nD τ).loc main_arg2)),
    fun c => normed 0 (added (m ((c : Thread nD τ).loc main_arg0)) (m ((c : Thread nD τ).loc main_arg1)) (m ((c : Thread nD τ).loc main_arg2)))
      (m ((c : Thread nD τ).loc main_arg3)),
    (θ_run _ _ _).mono (fun r h c => ⟨(h c).1.trans (kernel_sum m c), (h c).2.1.trans (kernel_normed m c), (h c).2.2⟩) (Value.run_blocks m ρ),
    (θ_run _ _ _).mono (fun r h c => ⟨(h c).1.trans ?_, (h c).2.1.trans ?_, (h c).2.2⟩) (Cert.ResidRefIdeal.Value.run m' ρ')⟩
  · rw [(hag c).1, (hag c).2.1, (hag c).2.2.1]
    funext i
    pointwise [added, normed]
  · rw [(hag c).1, (hag c).2.1, (hag c).2.2.1, (hag c).2.2.2]
    funext i
    pointwise [added, normed]

end Cert.ResidIdeal.Run

end
-- ==== Proof.lean ====
/-
The certificate: for each program of the layer, the frames of the kernel, of its idealization and of the reference, that
the idealization is sanctioned, and that kernel and reference leave equal results.
-/
module

public import proofs.«01_k».proof.Defs
public import proofs.«01_k».proof.Proof.Gen.Sba
public import proofs.«01_k».proof.Proof.Gen.SbaIdeal
public import proofs.«01_k».proof.Proof.Gen.SbaRefIdeal.Run
public import proofs.«01_k».proof.Proof.Gen.Mma
public import proofs.«01_k».proof.Proof.Gen.MmaIdeal
public import proofs.«01_k».proof.Proof.Gen.MmaRefIdeal.Run
public import proofs.«01_k».proof.Proof.Gen.Mmb
public import proofs.«01_k».proof.Proof.Gen.MmbIdeal
public import proofs.«01_k».proof.Proof.Gen.MmbRefIdeal.Run
public import proofs.«01_k».proof.Proof.Gen.Mmo
public import proofs.«01_k».proof.Proof.Gen.MmoIdeal
public import proofs.«01_k».proof.Proof.Gen.MmoRefIdeal.Run
public import proofs.«01_k».proof.Proof.Gen.Mmu
public import proofs.«01_k».proof.Proof.Gen.MmuIdeal
public import proofs.«01_k».proof.Proof.Gen.MmuRefIdeal.Run
public import proofs.«01_k».proof.Proof.Gen.Mmd
public import proofs.«01_k».proof.Proof.Gen.MmdIdeal
public import proofs.«01_k».proof.Proof.Gen.MmdRefIdeal.Run
public import proofs.«01_k».proof.Proof.Gen.Conv
public import proofs.«01_k».proof.Proof.Gen.ConvIdeal
public import proofs.«01_k».proof.Proof.Gen.ConvRefIdeal.Run
public import proofs.«01_k».proof.Proof.Gen.Norm
public import proofs.«01_k».proof.Proof.Gen.NormIdeal
public import proofs.«01_k».proof.Proof.Gen.NormRefIdeal.Run
public import proofs.«01_k».proof.Proof.Gen.PreNorm
public import proofs.«01_k».proof.Proof.Gen.PreNormIdeal
public import proofs.«01_k».proof.Proof.Gen.PreNormRefIdeal.Run
public import proofs.«01_k».proof.Proof.Gen.Resid
public import proofs.«01_k».proof.Proof.Gen.ResidIdeal
public import proofs.«01_k».proof.Proof.Gen.ResidRefIdeal.Run
public import proofs.«01_k».proof.Proof.Gen.Pre_sba_finite
public import proofs.«01_k».proof.Proof.Sba.Frame
public import proofs.«01_k».proof.Proof.SbaIdeal.Frame
public import proofs.«01_k».proof.Proof.Gen.Mma.Frame
public import proofs.«01_k».proof.Proof.Gen.Mmb.Frame
public import proofs.«01_k».proof.Proof.Gen.Mmo.Frame
public import proofs.«01_k».proof.Proof.Gen.Mmu.Frame
public import proofs.«01_k».proof.Proof.Gen.Mmd.Frame
public import proofs.«01_k».proof.Proof.Gen.Conv.Frame
public import proofs.«01_k».proof.Proof.Gen.Norm.Frame
public import proofs.«01_k».proof.Proof.Gen.PreNorm.Frame
public import proofs.«01_k».proof.Proof.Gen.Resid.Frame
public import proofs.«01_k».proof.Proof.SbaIdeal.Value
public import proofs.«01_k».proof.Proof.Mma
public import proofs.«01_k».proof.Proof.Mmb
public import proofs.«01_k».proof.Proof.Mmo
public import proofs.«01_k».proof.Proof.Mmu
public import proofs.«01_k».proof.Proof.Mmd
public import proofs.«01_k».proof.Proof.Conv
public import proofs.«01_k».proof.Proof.Norm
public import proofs.«01_k».proof.Proof.PreNorm
public import proofs.«01_k».proof.Proof.Resid

@[expose] public section

noncomputable section

namespace Cert.Proof

open Idealize.ShloMosaic Idealize.SL.Sem

/-- Everything the certificate claims, in its order. -/
theorem claim : Cert.Claim :=
  ⟨Cert.Sba.Gen.facts, Cert.SbaIdeal.Gen.facts, Cert.SbaRefIdeal.Gen.facts, Cert.Mma.Gen.facts, Cert.MmaIdeal.Gen.facts, Cert.MmaRefIdeal.Gen.facts,
   Cert.Mmb.Gen.facts, Cert.MmbIdeal.Gen.facts, Cert.MmbRefIdeal.Gen.facts, Cert.Mmo.Gen.facts, Cert.MmoIdeal.Gen.facts, Cert.MmoRefIdeal.Gen.facts,
   Cert.Mmu.Gen.facts, Cert.MmuIdeal.Gen.facts, Cert.MmuRefIdeal.Gen.facts, Cert.Mmd.Gen.facts, Cert.MmdIdeal.Gen.facts, Cert.MmdRefIdeal.Gen.facts,
   Cert.Conv.Gen.facts, Cert.ConvIdeal.Gen.facts, Cert.ConvRefIdeal.Gen.facts, Cert.Norm.Gen.facts, Cert.NormIdeal.Gen.facts, Cert.NormRefIdeal.Gen.facts,
   Cert.PreNorm.Gen.facts, Cert.PreNormIdeal.Gen.facts, Cert.PreNormRefIdeal.Gen.facts, Cert.Resid.Gen.facts, Cert.ResidIdeal.Gen.facts, Cert.ResidRefIdeal.Gen.facts,
   Cert.Pre_sba_finite.Gen.facts,
   fun m ρ _ => Cert.Sba.Run.frame m ρ,
   fun m ρ _ => Cert.SbaIdeal.Run.frame m ρ,
   fun m ρ _ => Cert.SbaIdeal.Run.frame m ρ,
   fun m ρ _ => (θ_run _ _ _).mono (fun _ h => ⟨fun c => (h c).2, sem_eq_zero_of_no_sems rfl _⟩) (Cert.SbaRefIdeal.Value.run m ρ),
   fun m ρ _ => (θ_run _ _ _).mono (fun _ h => ⟨fun c => (h c).2, sem_eq_zero_of_no_sems rfl _⟩) (Cert.SbaRefIdeal.Value.run m ρ),
   fun m ρ _ => Cert.Mma.Gen.frame m ρ,
   fun m ρ _ => Cert.MmaIdeal.Gen.frame m ρ,
   fun m ρ _ => (θ_run _ _ _).mono (fun _ h => ⟨fun c => (h c).2, sem_eq_zero_of_no_sems rfl _⟩) (Cert.MmaRefIdeal.Value.run m ρ),
   fun m ρ _ => Cert.Mmb.Gen.frame m ρ,
   fun m ρ _ => Cert.MmbIdeal.Gen.frame m ρ,
   fun m ρ _ => (θ_run _ _ _).mono (fun _ h => ⟨fun c => (h c).2, sem_eq_zero_of_no_sems rfl _⟩) (Cert.MmbRefIdeal.Value.run m ρ),
   fun m ρ _ => Cert.Mmo.Gen.frame m ρ,
   fun m ρ _ => Cert.MmoIdeal.Gen.frame m ρ,
   fun m ρ _ => (θ_run _ _ _).mono (fun _ h => ⟨fun c => (h c).2, sem_eq_zero_of_no_sems rfl _⟩) (Cert.MmoRefIdeal.Value.run m ρ),
   fun m ρ _ => Cert.Mmu.Gen.frame m ρ,
   fun m ρ _ => Cert.MmuIdeal.Gen.frame m ρ,
   fun m ρ _ => (θ_run _ _ _).mono (fun _ h => ⟨fun c => (h c).2, sem_eq_zero_of_no_sems rfl _⟩) (Cert.MmuRefIdeal.Value.run m ρ),
   fun m ρ _ => Cert.Mmd.Gen.frame m ρ,
   fun m ρ _ => Cert.MmdIdeal.Gen.frame m ρ,
   fun m ρ _ => (θ_run _ _ _).mono (fun _ h => ⟨fun c => (h c).2, sem_eq_zero_of_no_sems rfl _⟩) (Cert.MmdRefIdeal.Value.run m ρ),
   fun m ρ _ => Cert.Conv.Gen.frame m ρ,
   fun m ρ _ => Cert.ConvIdeal.Gen.frame m ρ,
   fun m ρ _ => (θ_run _ _ _).mono (fun _ h => ⟨fun c => (h c).2, sem_eq_zero_of_no_sems rfl _⟩) (Cert.ConvRefIdeal.Value.run m ρ),
   fun m ρ _ => Cert.Norm.Gen.frame m ρ,
   fun m ρ _ => Cert.NormIdeal.Gen.frame m ρ,
   fun m ρ _ => (θ_run _ _ _).mono (fun _ h => ⟨fun c => (h c).2, sem_eq_zero_of_no_sems rfl _⟩) (Cert.NormRefIdeal.Value.run m ρ),
   fun m ρ _ => Cert.PreNorm.Gen.frame m ρ,
   fun m ρ _ => Cert.PreNormIdeal.Gen.frame m ρ,
   fun m ρ _ => (θ_run _ _ _).mono (fun _ h => ⟨fun c => (h c).2, sem_eq_zero_of_no_sems rfl _⟩) (Cert.PreNormRefIdeal.Value.run m ρ),
   fun m ρ _ => Cert.Resid.Gen.frame m ρ,
   fun m ρ _ => Cert.ResidIdeal.Gen.frame m ρ,
   fun m ρ _ => (θ_run _ _ _).mono (fun _ h => ⟨fun c => (h c).2.2, sem_eq_zero_of_no_sems rfl _⟩) (Cert.ResidRefIdeal.Value.run m ρ),
   ⟨IdealRules.named_const.statement Cert.SbaIdeal.κ "skip" .f32 0xC2DC0000#32 ⊥ rfl,
     IdealRules.named_const.statement Cert.SbaIdeal.κ "scale" .f32 0x3DB504F3#32 (((Real.sqrt 128)⁻¹ : ℝ) : EReal) rfl⟩,
   Cert.SbaIdeal.Run.algebraic,
   trivial,
   Cert.MmaIdeal.Run.algebraic,
   trivial,
   Cert.MmbIdeal.Run.algebraic,
   trivial,
   Cert.MmoIdeal.Run.algebraic,
   trivial,
   Cert.MmuIdeal.Run.algebraic,
   trivial,
   Cert.MmdIdeal.Run.algebraic,
   trivial,
   Cert.ConvIdeal.Run.algebraic,
   trivial,
   Cert.NormIdeal.Run.algebraic,
   trivial,
   Cert.PreNormIdeal.Run.algebraic,
   trivial,
   Cert.ResidIdeal.Run.algebraic⟩

end Cert.Proof

end
